-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_boxes [hPre_labels_and_boxes : Cert.Pre_labels_and_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_boxes [hPre_labels_and_boxes : Cert.Pre_labels_and_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_and_boxes [hKernelIdeal : Cert.KernelIdeal.Facts] [hPre_labels_and_boxes : Cert.Pre_labels_and_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_and_boxes [hReferenceIdeal : Cert.ReferenceIdeal.Facts] [hPre_labels_and_boxes : Cert.Pre_labels_and_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_labels_and_boxes [hKernelIdeal : Cert.KernelIdeal.Facts] [hReferenceIdeal : Cert.ReferenceIdeal.Facts] [hPre_labels_and_boxes : Cert.Pre_labels_and_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_and_boxes : Cert.Pre_labels_and_boxes.Facts),
    quiescent_Kernel (hKernel := hKernel)
    ∧ quiescent_KernelIdeal (hKernelIdeal := hKernelIdeal)
    ∧ quiescent_KernelIdeal_pre_labels_and_boxes (hKernelIdeal := hKernelIdeal) (hPre_labels_and_boxes := hPre_labels_and_boxes)
    ∧ quiescent_ReferenceIdeal (hReferenceIdeal := hReferenceIdeal)
    ∧ quiescent_ReferenceIdeal_pre_labels_and_boxes (hReferenceIdeal := hReferenceIdeal) (hPre_labels_and_boxes := hPre_labels_and_boxes)
    ∧ preserves_Kernel_KernelIdeal
    ∧ algebraic_KernelIdeal_ReferenceIdeal_pre_labels_and_boxes (hKernelIdeal := hKernelIdeal) (hReferenceIdeal := hReferenceIdeal) (hPre_labels_and_boxes := hPre_labels_and_boxes)
-- ==== Pre_labels_and_boxes.lean ====
abbrev S2x100 : Shape := ⟨2, ![2, 100]⟩
abbrev S2x100x4 : Shape := ⟨3, ![2, 100, 4]⟩
abbrev S2x100x28x28 : Shape := ⟨4, ![2, 100, 28, 28]⟩
abbrev S2x128x128x54 : Shape := ⟨4, ![2, 128, 128, 54]⟩
abbrev S_ : Shape := ⟨0, ![]⟩

class Facts : Prop where
  bcast_S_S2x100 : S_.BroadcastsInDim S2x100 (![] : Fin 0 → Fin S2x100.rank)
  reducesTo_S2x100_S_d0_1 : S2x100.ReducesTo [0, 1] S_
  h_S_ : 0 < S_.numel
  bcast_S_S2x100x4 : S_.BroadcastsInDim S2x100x4 (![] : Fin 0 → Fin S2x100x4.rank)
  reducesTo_S2x100x4_S_d0_1_2 : S2x100x4.ReducesTo [0, 1, 2] S_

variable [Facts]

def fn {F : FTy → Type} [FloatOps F] (main_arg0 : FVec F S2x100 .f32) (main_arg1 : FVec F S2x100 .f32) (main_arg2 : FVec F S2x100x4 .f32) (main_arg3 : FVec F S2x100x28x28 .f32) (main_arg4 : FVec F S2x128x128x54 .f32) : IVec S_ 1 :=
  let main_cst : FVec F S_ .f32 := constant S_ .f32 0x3F800000#32
  let main_v0 : FVec F S2x100 .f32 := broadcastInDim S2x100 ![] bcast_S_S2x100 main_cst
  let main_v1 : IVec S2x100 1 := cmpf .oge main_arg1 main_v0
  let main_cst_0 : FVec F S_ .f32 := constant S_ .f32 0x43FF8000#32
  let main_v2 : FVec F S2x100 .f32 := broadcastInDim S2x100 ![] bcast_S_S2x100 main_cst_0
  let main_v3 : IVec S2x100 1 := cmpf .ole main_arg1 main_v2
  let main_v4 : IVec S2x100 1 := andi main_v1 main_v3
  let main_v5 : FVec F S2x100 .f32 := Host.floor main_arg1
  let main_v6 : IVec S2x100 1 := cmpf .oeq main_v5 main_arg1
  let main_v7 : IVec S2x100 1 := andi main_v4 main_v6
  let main_c : IVec S_ 1 := constantI S_ 1 1#1
  let main_v8 : IVec S_ 1 := (fun x v => Host.reduce IntOp.andi x v reducesTo_S2x100_S_d0_1 h_S_) main_v7 main_c
  let main_cst_1 : FVec F S_ .f32 := constant S_ .f32 0xCE800000#32
  let main_v9 : FVec F S2x100x4 .f32 := broadcastInDim S2x100x4 ![] bcast_S_S2x100x4 main_cst_1
  let main_v10 : IVec S2x100x4 1 := cmpf .oge main_arg2 main_v9
  let main_cst_2 : FVec F S_ .f32 := constant S_ .f32 0x4E800000#32
  let main_v11 : FVec F S2x100x4 .f32 := broadcastInDim S2x100x4 ![] bcast_S_S2x100x4 main_cst_2
  let main_v12 : IVec S2x100x4 1 := cmpf .ole main_arg2 main_v11
  let main_v13 : IVec S2x100x4 1 := andi main_v10 main_v12
  let main_c_3 : IVec S_ 1 := constantI S_ 1 1#1
  let main_v14 : IVec S_ 1 := (fun x v => Host.reduce IntOp.andi x v reducesTo_S2x100x4_S_d0_1_2 h_S_) main_v13 main_c_3
  let main_v15 : IVec S_ 1 := andi main_v8 main_v14
  main_v15
-- ==== Kernel.lean ====
abbrev S2x100 : Shape := ⟨2, ![2, 100]⟩
abbrev S2x100x4 : Shape := ⟨3, ![2, 100, 4]⟩
abbrev S2x100x28x28 : Shape := ⟨4, ![2, 100, 28, 28]⟩
abbrev S2x128x128x54 : Shape := ⟨4, ![2, 128, 128, 54]⟩
abbrev S512 : Shape := ⟨1, ![512]⟩
abbrev S_ : Shape := ⟨0, ![]⟩
abbrev S2x128 : Shape := ⟨2, ![2, 128]⟩
abbrev S2x128x4 : Shape := ⟨3, ![2, 128, 4]⟩
abbrev S2x128x28x28 : Shape := ⟨4, ![2, 128, 28, 28]⟩
abbrev S2x128x1 : Shape := ⟨3, ![2, 128, 1]⟩
abbrev S2x1x128 : Shape := ⟨3, ![2, 1, 128]⟩
abbrev S2x54x128x128 : Shape := ⟨4, ![2, 54, 128, 128]⟩
abbrev S512x1 : Shape := ⟨2, ![512, 1]⟩
abbrev S1x512 : Shape := ⟨2, ![1, 512]⟩
abbrev S512x512 : Shape := ⟨2, ![512, 512]⟩
abbrev S2x512x512 : Shape := ⟨3, ![2, 512, 512]⟩
abbrev S1x128x1 : Shape := ⟨3, ![1, 128, 1]⟩
abbrev S1x1x128 : Shape := ⟨3, ![1, 1, 128]⟩
abbrev S1x128x28x28 : Shape := ⟨4, ![1, 128, 28, 28]⟩
abbrev S1x54x128x128 : Shape := ⟨4, ![1, 54, 128, 128]⟩
abbrev S1x512x512 : Shape := ⟨3, ![1, 512, 512]⟩
abbrev S128x1 : Shape := ⟨2, ![128, 1]⟩
abbrev S1x128 : Shape := ⟨2, ![1, 128]⟩
abbrev S128x128 : Shape := ⟨2, ![128, 128]⟩
abbrev S128 : Shape := ⟨1, ![128]⟩
abbrev S128x512 : Shape := ⟨2, ![128, 512]⟩
abbrev S1x1x128x128 : Shape := ⟨4, ![1, 1, 128, 128]⟩
abbrev S128x127 : Shape := ⟨2, ![128, 127]⟩
abbrev S127x512 : Shape := ⟨2, ![127, 512]⟩
abbrev S128x1x512 : Shape := ⟨3, ![128, 1, 512]⟩
abbrev S128x4x512 : Shape := ⟨3, ![128, 4, 512]⟩
abbrev S512x28 : Shape := ⟨2, ![512, 28]⟩
abbrev S28x512 : Shape := ⟨2, ![28, 512]⟩
abbrev S1x1x1 : Shape := ⟨3, ![1, 1, 1]⟩
abbrev S1x1x28x28 : Shape := ⟨4, ![1, 1, 28, 28]⟩
abbrev S28x28 : Shape := ⟨2, ![28, 28]⟩
abbrev S1x1 : Shape := ⟨2, ![1, 1]⟩

abbrev nBuf : Space → Nat
  | .hbm => 32
  | .vmem => 16
  | .smem => 2
  | _ => 0

abbrev bufTy : (tb : Table) → Fin (tcTables nBuf tb) → BufTy
  | .hbm, ⟨0, _⟩ => ⟨S2x100, .f32⟩
  | .hbm, ⟨1, _⟩ => ⟨S2x100, .f32⟩
  | .hbm, ⟨2, _⟩ => ⟨S2x100x4, .f32⟩
  | .hbm, ⟨3, _⟩ => ⟨S2x100x28x28, .f32⟩
  | .hbm, ⟨4, _⟩ => ⟨S2x128x128x54, .f32⟩
  | .hbm, ⟨5, _⟩ => ⟨S512, .i32⟩
  | .hbm, ⟨6, _⟩ => ⟨S_, .f32⟩
  | .hbm, ⟨7, _⟩ => ⟨S_, .f32⟩
  | .hbm, ⟨8, _⟩ => ⟨S2x128, .f32⟩
  | .hbm, ⟨9, _⟩ => ⟨S_, .i32⟩
  | .hbm, ⟨10, _⟩ => ⟨S_, .f32⟩
  | .hbm, ⟨11, _⟩ => ⟨S2x128, .f32⟩
  | .hbm, ⟨12, _⟩ => ⟨S_, .i32⟩
  | .hbm, ⟨13, _⟩ => ⟨S_, .f32⟩
  | .hbm, ⟨14, _⟩ => ⟨S2x128x4, .f32⟩
  | .hbm, ⟨15, _⟩ => ⟨S_, .i32⟩
  | .hbm, ⟨16, _⟩ => ⟨S_, .f32⟩
  | .hbm, ⟨17, _⟩ => ⟨S2x128x28x28, .f32⟩
  | .hbm, ⟨18, _⟩ => ⟨S2x128x4, .i32⟩
  | .hbm, ⟨19, _⟩ => ⟨S2x128x1, .f32⟩
  | .hbm, ⟨20, _⟩ => ⟨S2x1x128, .f32⟩
  | .hbm, ⟨21, _⟩ => ⟨S2x128x1, .f32⟩
  | .hbm, ⟨22, _⟩ => ⟨S2x54x128x128, .f32⟩
  | .hbm, ⟨23, _⟩ => ⟨S512x1, .i32⟩
  | .hbm, ⟨24, _⟩ => ⟨S512, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .f32⟩
  | .hbm, ⟨30, _⟩ => ⟨S2x512x512, .i32⟩
  | .hbm, ⟨31, _⟩ => ⟨S2x512x512, .i32⟩
  | .local _ .vmem, ⟨0, _⟩ => ⟨S1x128x1, .f32⟩
  | .local _ .vmem, ⟨1, _⟩ => ⟨S1x128x1, .f32⟩
  | .local _ .vmem, ⟨2, _⟩ => ⟨S1x1x128, .f32⟩
  | .local _ .vmem, ⟨3, _⟩ => ⟨S1x1x128, .f32⟩
  | .local _ .vmem, ⟨4, _⟩ => ⟨S1x128x1, .f32⟩
  | .local _ .vmem, ⟨5, _⟩ => ⟨S1x128x1, .f32⟩
  | .local _ .vmem, ⟨6, _⟩ => ⟨S1x128x28x28, .f32⟩
  | .local _ .vmem, ⟨7, _⟩ => ⟨S1x128x28x28, .f32⟩
  | .local _ .vmem, ⟨8, _⟩ => ⟨S1x54x128x128, .f32⟩
  | .local _ .vmem, ⟨9, _⟩ => ⟨S1x54x128x128, .f32⟩
  | .local _ .vmem, ⟨10, _⟩ => ⟨S512x512, .f32⟩
  | .local _ .vmem, ⟨11, _⟩ => ⟨S1x512x512, .i32⟩
  | .local _ .vmem, ⟨12, _⟩ => ⟨S1x512x512, .i32⟩
  | .local _ .vmem, ⟨13, _⟩ => ⟨S1x512x512, .i32⟩
  | .local _ .vmem, ⟨14, _⟩ => ⟨S1x512x512, .i32⟩
  | .local _ .vmem, ⟨15, _⟩ => ⟨S128x1, .f32⟩
  | .local _ .smem, ⟨0, _⟩ => ⟨S2x128, .f32⟩
  | .local _ .smem, ⟨1, _⟩ => ⟨S2x128x4, .i32⟩
  | _, _ => ⟨S2x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_c_2 : Ref sig .tc := ⟨.hbm, 15, rfl⟩
abbrev main_call3_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_stg6_0 : Ref sig .tc := ⟨.smem, 0, rfl⟩
abbrev cc0_stg7_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c14_i32 : BitVec 32 := 14#32
  let v44 : BitVec 32 := Scalar.addi c0_i32 c14_i32
  let c1_i32 : BitVec 32 := 1#32
  ⟨c0_i32, v44, c1_i32⟩
def k0_off1 (k0_t1 : Fin k0_t1_loop.trips) (c0_i32_48 : BitVec 32) : Fin 4 → Nat :=
  let c0_56 : Index := 0#32
  let c4_i32 : BitVec 32 := 4#32
  let c0_i32 : BitVec 32 := 0#32
  let c1_i32 : BitVec 32 := 1#32
  let arg12 : BitVec 32 := Scf.iv c0_i32 c1_i32 k0_t1
  let v104 : BitVec 32 := Scalar.muli c4_i32 arg12
  let v105 : BitVec 32 := Scalar.addi v104 c0_i32_48
  let c53_i32 : BitVec 32 := 53#32
  let v106 : BitVec 32 := Scalar.minsi v105 c53_i32
  let v116 : Index := Scalar.indexCast v106
  let c0_57 : Index := 0#32
  let c0_58 : Index := 0#32
  ![0, v116.toNat, 0, 0]
@[reducible] def k0_t2_loop : Scf.Loop 32 :=
  let c0_i32_27 : BitVec 32 := 0#32
  let c25_i32 : BitVec 32 := 25#32
  let v64 : BitVec 32 := Scalar.addi c0_i32_27 c25_i32
  let c1_i32_28 : BitVec 32 := 1#32
  ⟨c0_i32_27, v64, c1_i32_28⟩
def k0_off2 (i : grid0.Coords) (k0_t2 : Fin k0_t2_loop.trips) : Fin 3 → Nat :=
  let arg0 : BitVec 32 := BitVec.ofNat 32 (i 0).val
  let v104 : Index := Scalar.indexCast arg0
  let c0_i32_27 : BitVec 32 := 0#32
  let c1_i32_28 : BitVec 32 := 1#32
  let arg12 : BitVec 32 := Scf.iv c0_i32_27 c1_i32_28 k0_t2
  let v105 : Index := Scalar.indexCast arg12
  let c0_48 : Index := 0#32
  ![v104.toNat, v105.toNat, 0]
def k0_off3 (i : grid0.Coords) (k0_t2 : Fin k0_t2_loop.trips) : Fin 3 → Nat :=
  let arg0 : BitVec 32 := BitVec.ofNat 32 (i 0).val
  let v108 : Index := Scalar.indexCast arg0
  let c0_i32_27 : BitVec 32 := 0#32
  let c1_i32_28 : BitVec 32 := 1#32
  let arg12 : BitVec 32 := Scf.iv c0_i32_27 c1_i32_28 k0_t2
  let v109 : Index := Scalar.indexCast arg12
  let c2 : Index := 2#32
  ![v108.toNat, v109.toNat, 2]
def k0_off4 (i : grid0.Coords) (k0_t2 : Fin k0_t2_loop.trips) : Fin 3 → Nat :=
  let arg0 : BitVec 32 := BitVec.ofNat 32 (i 0).val
  let v114 : Index := Scalar.indexCast arg0
  let c0_i32_27 : BitVec 32 := 0#32
  let c1_i32_28 : BitVec 32 := 1#32
  let arg12 : BitVec 32 := Scf.iv c0_i32_27 c1_i32_28 k0_t2
  let v115 : Index := Scalar.indexCast arg12
  let c1 : Index := 1#32
  ![v114.toNat, v115.toNat, 1]
def k0_off5 (i : grid0.Coords) (k0_t2 : Fin k0_t2_loop.trips) : Fin 3 → Nat :=
  let arg0 : BitVec 32 := BitVec.ofNat 32 (i 0).val
  let v118 : Index := Scalar.indexCast arg0
  let c0_i32_27 : BitVec 32 := 0#32
  let c1_i32_28 : BitVec 32 := 1#32
  let arg12 : BitVec 32 := Scf.iv c0_i32_27 c1_i32_28 k0_t2
  let v119 : Index := Scalar.indexCast arg12
  let c3 : Index := 3#32
  ![v118.toNat, v119.toNat, 3]
def k0_off6 (k0_t2 : Fin k0_t2_loop.trips) : Fin 4 → Nat :=
  let c0_62 : Index := 0#32
  let c0_i32_27 : BitVec 32 := 0#32
  let c1_i32_28 : BitVec 32 := 1#32
  let arg12 : BitVec 32 := Scf.iv c0_i32_27 c1_i32_28 k0_t2
  let v172 : Index := Scalar.indexCast arg12
  let c0_63 : Index := 0#32
  let c0_64 : Index := 0#32
  ![0, v172.toNat, 0, 0]
def k0_off7 (k0_t2 : Fin k0_t2_loop.trips) : Fin 2 → Nat :=
  let c0_i32_27 : BitVec 32 := 0#32
  let c1_i32_28 : BitVec 32 := 1#32
  let arg12 : BitVec 32 := Scf.iv c0_i32_27 c1_i32_28 k0_t2
  let v183 : Index := Scalar.indexCast arg12
  let c0_68 : Index := 0#32
  ![v183.toNat, 0]
def k0_off8 (i : grid0.Coords) (k0_t2 : Fin k0_t2_loop.trips) (c25_i32_71 : BitVec 32) : Fin 3 → Nat :=
  let arg0 : BitVec 32 := BitVec.ofNat 32 (i 0).val
  let v192 : Index := Scalar.indexCast arg0
  let c0_i32_27 : BitVec 32 := 0#32
  let c1_i32_28 : BitVec 32 := 1#32
  let arg12 : BitVec 32 := Scf.iv c0_i32_27 c1_i32_28 k0_t2
  let v191 : BitVec 32 := Scalar.addi arg12 c25_i32_71
  let v193 : Index := Scalar.indexCast v191
  let c0_72 : Index := 0#32
  ![v192.toNat, v193.toNat, 0]
def k0_off9 (i : grid0.Coords) (k0_t2 : Fin k0_t2_loop.trips) (c25_i32_71 : BitVec 32) : Fin 3 → Nat :=
  let arg0 : BitVec 32 := BitVec.ofNat 32 (i 0).val
  let v196 : Index := Scalar.indexCast arg0
  let c0_i32_27 : BitVec 32 := 0#32
  let c1_i32_28 : BitVec 32 := 1#32
  let arg12 : BitVec 32 := Scf.iv c0_i32_27 c1_i32_28 k0_t2
  let v191 : BitVec 32 := Scalar.addi arg12 c25_i32_71
  let v197 : Index := Scalar.indexCast v191
  let c2_73 : Index := 2#32
  ![v196.toNat, v197.toNat, 2]
def k0_off10 (i : grid0.Coords) (k0_t2 : Fin k0_t2_loop.trips) (c25_i32_71 : BitVec 32) : Fin 3 → Nat :=
  let arg0 : BitVec 32 := BitVec.ofNat 32 (i 0).val
  let v202 : Index := Scalar.indexCast arg0
  let c0_i32_27 : BitVec 32 := 0#32
  let c1_i32_28 : BitVec 32 := 1#32
  let arg12 : BitVec 32 := Scf.iv c0_i32_27 c1_i32_28 k0_t2
  let v191 : BitVec 32 := Scalar.addi arg12 c25_i32_71
  let v203 : Index := Scalar.indexCast v191
  let c1_76 : Index := 1#32
  ![v202.toNat, v203.toNat, 1]
def k0_off11 (i : grid0.Coords) (k0_t2 : Fin k0_t2_loop.trips) (c25_i32_71 : BitVec 32) : Fin 3 → Nat :=
  let arg0 : BitVec 32 := BitVec.ofNat 32 (i 0).val
  let v206 : Index := Scalar.indexCast arg0
  let c0_i32_27 : BitVec 32 := 0#32
  let c1_i32_28 : BitVec 32 := 1#32
  let arg12 : BitVec 32 := Scf.iv c0_i32_27 c1_i32_28 k0_t2
  let v191 : BitVec 32 := Scalar.addi arg12 c25_i32_71
  let v207 : Index := Scalar.indexCast v191
  let c3_77 : Index := 3#32
  ![v206.toNat, v207.toNat, 3]
def k0_off12 (k0_t2 : Fin k0_t2_loop.trips) (c25_i32_71 : BitVec 32) : Fin 4 → Nat :=
  let c0_90 : Index := 0#32
  let c0_i32_27 : BitVec 32 := 0#32
  let c1_i32_28 : BitVec 32 := 1#32
  let arg12 : BitVec 32 := Scf.iv c0_i32_27 c1_i32_28 k0_t2
  let v191 : BitVec 32 := Scalar.addi arg12 c25_i32_71
  let v260 : Index := Scalar.indexCast v191
  let c0_91 : Index := 0#32
  let c0_92 : Index := 0#32
  ![0, v260.toNat, 0, 0]
def k0_off13 (k0_t2 : Fin k0_t2_loop.trips) (c25_i32_71 : BitVec 32) : Fin 2 → Nat :=
  let c0_i32_27 : BitVec 32 := 0#32
  let c1_i32_28 : BitVec 32 := 1#32
  let arg12 : BitVec 32 := Scf.iv c0_i32_27 c1_i32_28 k0_t2
  let v191 : BitVec 32 := Scalar.addi arg12 c25_i32_71
  let v271 : Index := Scalar.indexCast v191
  let c0_96 : Index := 0#32
  ![v271.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x28x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x54x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S2x128x4 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x100 : Shape := ⟨2, ![2, 100]⟩
abbrev S2x100x4 : Shape := ⟨3, ![2, 100, 4]⟩
abbrev S2x100x28x28 : Shape := ⟨4, ![2, 100, 28, 28]⟩
abbrev S2x128x128x54 : Shape := ⟨4, ![2, 128, 128, 54]⟩
abbrev S512 : Shape := ⟨1, ![512]⟩
abbrev S_ : Shape := ⟨0, ![]⟩
abbrev S128 : Shape := ⟨1, ![128]⟩
abbrev S1x512 : Shape := ⟨2, ![1, 512]⟩
abbrev S128x1 : Shape := ⟨2, ![128, 1]⟩
abbrev S128x512 : Shape := ⟨2, ![128, 512]⟩
abbrev S512x2x128x54 : Shape := ⟨4, ![512, 2, 128, 54]⟩
abbrev S2x512x128x54 : Shape := ⟨4, ![2, 512, 128, 54]⟩
abbrev S512x2x512x54 : Shape := ⟨4, ![512, 2, 512, 54]⟩
abbrev S2x512x512x54 : Shape := ⟨4, ![2, 512, 512, 54]⟩
abbrev S2x512x512 : Shape := ⟨3, ![2, 512, 512]⟩
abbrev S2x512x512x1 : Shape := ⟨4, ![2, 512, 512, 1]⟩
abbrev S2x100x1 : Shape := ⟨3, ![2, 100, 1]⟩
abbrev S1x1x512 : Shape := ⟨3, ![1, 1, 512]⟩
abbrev S2x100x512 : Shape := ⟨3, ![2, 100, 512]⟩
abbrev S2x100x512x1 : Shape := ⟨4, ![2, 100, 512, 1]⟩
abbrev S2x100x1x512 : Shape := ⟨4, ![2, 100, 1, 512]⟩
abbrev S2x100x512x512 : Shape := ⟨4, ![2, 100, 512, 512]⟩
abbrev S2x100x512x512x1 : Shape := ⟨5, ![2, 100, 512, 512, 1]⟩
abbrev S2x100x512x512x2 : Shape := ⟨5, ![2, 100, 512, 512, 2]⟩
abbrev S512x512 : Shape := ⟨2, ![512, 512]⟩
abbrev S100x512x512 : Shape := ⟨3, ![100, 512, 512]⟩
abbrev S2x100x1x1 : Shape := ⟨4, ![2, 100, 1, 1]⟩
abbrev S2x1x512x512 : Shape := ⟨4, ![2, 1, 512, 512]⟩

abbrev nBuf : Space → Nat
  | .hbm => 384
  | .vmem => 0
  | .smem => 0
  | _ => 0

abbrev hbmTy0_0 (i : Nat) : BufTy := match i % 128 with
  | 0 => ⟨S2x100, .f32⟩
  | 1 => ⟨S2x100, .f32⟩
  | 2 => ⟨S2x100x4, .f32⟩
  | 3 => ⟨S2x100x28x28, .f32⟩
  | 4 => ⟨S2x128x128x54, .f32⟩
  | 5 => ⟨S2x100x4, .i32⟩
  | 6 => ⟨S512, .f32⟩
  | 7 => ⟨S_, .f32⟩
  | 8 => ⟨S512, .f32⟩
  | 9 => ⟨S512, .f32⟩
  | 10 => ⟨S_, .f32⟩
  | 11 => ⟨S512, .f32⟩
  | 12 => ⟨S512, .f32⟩
  | 13 => ⟨S_, .f32⟩
  | 14 => ⟨S512, .f32⟩
  | 15 => ⟨S512, .f32⟩
  | 16 => ⟨S_, .f32⟩
  | 17 => ⟨S512, .f32⟩
  | 18 => ⟨S512, .f32⟩
  | 19 => ⟨S128, .f32⟩
  | 20 => ⟨S1x512, .f32⟩
  | 21 => ⟨S128x1, .f32⟩
  | 22 => ⟨S128x512, .f32⟩
  | 23 => ⟨S128x512, .f32⟩
  | 24 => ⟨S128x512, .f32⟩
  | 25 => ⟨S128x512, .f32⟩
  | 26 => ⟨S_, .f32⟩
  | 27 => ⟨S128x512, .f32⟩
  | 28 => ⟨S128x512, .f32⟩
  | 29 => ⟨S128x512, .f32⟩
  | 30 => ⟨S_, .f32⟩
  | 31 => ⟨S128x512, .f32⟩
  | 32 => ⟨S128x512, .f32⟩
  | 33 => ⟨S_, .f32⟩
  | 34 => ⟨S128x512, .f32⟩
  | 35 => ⟨S128x512, .f32⟩
  | 36 => ⟨S_, .f32⟩
  | 37 => ⟨S512, .f32⟩
  | 38 => ⟨S1x512, .f32⟩
  | 39 => ⟨S1x512, .f32⟩
  | 40 => ⟨S_, .f32⟩
  | 41 => ⟨S1x512, .f32⟩
  | 42 => ⟨S1x512, .i1⟩
  | 43 => ⟨S_, .f32⟩
  | 44 => ⟨S1x512, .f32⟩
  | 45 => ⟨S1x512, .i1⟩
  | 46 => ⟨S_, .i32⟩
  | 47 => ⟨S_, .f32⟩
  | 48 => ⟨S1x512, .f32⟩
  | 49 => ⟨S1x512, .f32⟩
  | 50 => ⟨S128x512, .f32⟩
  | 51 => ⟨S128x512, .f32⟩
  | 52 => ⟨S_, .i32⟩
  | 53 => ⟨S_, .f32⟩
  | 54 => ⟨S128x512, .i1⟩
  | 55 => ⟨S128x512, .f32⟩
  | 56 => ⟨S128x512, .f32⟩
  | 57 => ⟨S_, .f32⟩
  | 58 => ⟨S512, .f32⟩
  | 59 => ⟨S512, .i1⟩
  | 60 => ⟨S_, .f32⟩
  | 61 => ⟨S512, .f32⟩
  | 62 => ⟨S512, .i1⟩
  | 63 => ⟨S512, .i1⟩
  | 64 => ⟨S1x512, .i1⟩
  | 65 => ⟨S_, .i32⟩
  | 66 => ⟨S_, .f32⟩
  | 67 => ⟨S128x512, .i1⟩
  | 68 => ⟨S128x512, .f32⟩
  | 69 => ⟨S128x512, .f32⟩
  | 70 => ⟨S512x2x128x54, .f32⟩
  | 71 => ⟨S2x512x128x54, .f32⟩
  | 72 => ⟨S512, .f32⟩
  | 73 => ⟨S_, .f32⟩
  | 74 => ⟨S512, .f32⟩
  | 75 => ⟨S512, .f32⟩
  | 76 => ⟨S_, .f32⟩
  | 77 => ⟨S512, .f32⟩
  | 78 => ⟨S512, .f32⟩
  | 79 => ⟨S_, .f32⟩
  | 80 => ⟨S512, .f32⟩
  | 81 => ⟨S512, .f32⟩
  | 82 => ⟨S_, .f32⟩
  | 83 => ⟨S512, .f32⟩
  | 84 => ⟨S512, .f32⟩
  | 85 => ⟨S128, .f32⟩
  | 86 => ⟨S1x512, .f32⟩
  | 87 => ⟨S128x1, .f32⟩
  | 88 => ⟨S128x512, .f32⟩
  | 89 => ⟨S128x512, .f32⟩
  | 90 => ⟨S128x512, .f32⟩
  | 91 => ⟨S128x512, .f32⟩
  | 92 => ⟨S_, .f32⟩
  | 93 => ⟨S128x512, .f32⟩
  | 94 => ⟨S128x512, .f32⟩
  | 95 => ⟨S128x512, .f32⟩
  | 96 => ⟨S_, .f32⟩
  | 97 => ⟨S128x512, .f32⟩
  | 98 => ⟨S128x512, .f32⟩
  | 99 => ⟨S_, .f32⟩
  | 100 => ⟨S128x512, .f32⟩
  | 101 => ⟨S128x512, .f32⟩
  | 102 => ⟨S_, .f32⟩
  | 103 => ⟨S512, .f32⟩
  | 104 => ⟨S1x512, .f32⟩
  | 105 => ⟨S1x512, .f32⟩
  | 106 => ⟨S_, .f32⟩
  | 107 => ⟨S1x512, .f32⟩
  | 108 => ⟨S1x512, .i1⟩
  | 109 => ⟨S_, .f32⟩
  | 110 => ⟨S1x512, .f32⟩
  | 111 => ⟨S1x512, .i1⟩
  | 112 => ⟨S_, .i32⟩
  | 113 => ⟨S_, .f32⟩
  | 114 => ⟨S1x512, .f32⟩
  | 115 => ⟨S1x512, .f32⟩
  | 116 => ⟨S128x512, .f32⟩
  | 117 => ⟨S128x512, .f32⟩
  | 118 => ⟨S_, .i32⟩
  | 119 => ⟨S_, .f32⟩
  | 120 => ⟨S128x512, .i1⟩
  | 121 => ⟨S128x512, .f32⟩
  | 122 => ⟨S128x512, .f32⟩
  | 123 => ⟨S_, .f32⟩
  | 124 => ⟨S512, .f32⟩
  | 125 => ⟨S512, .i1⟩
  | 126 => ⟨S_, .f32⟩
  | 127 => ⟨S512, .f32⟩
  | _ => ⟨S2x100, .f32⟩

abbrev hbmTy0_1 (i : Nat) : BufTy := match i % 128 with
  | 0 => ⟨S512, .i1⟩
  | 1 => ⟨S512, .i1⟩
  | 2 => ⟨S1x512, .i1⟩
  | 3 => ⟨S_, .i32⟩
  | 4 => ⟨S_, .f32⟩
  | 5 => ⟨S128x512, .i1⟩
  | 6 => ⟨S128x512, .f32⟩
  | 7 => ⟨S128x512, .f32⟩
  | 8 => ⟨S512x2x512x54, .f32⟩
  | 9 => ⟨S2x512x512x54, .f32⟩
  | 10 => ⟨S2x512x512x54, .i32⟩
  | 11 => ⟨S_, .f32⟩
  | 12 => ⟨S2x512x512, .f32⟩
  | 13 => ⟨S2x512x512x1, .f32⟩
  | 14 => ⟨S2x512x512x54, .f32⟩
  | 15 => ⟨S2x512x512x54, .i1⟩
  | 16 => ⟨S_, .i32⟩
  | 17 => ⟨S_, .i32⟩
  | 18 => ⟨S2x512x512x54, .i32⟩
  | 19 => ⟨S2x512x512x54, .i32⟩
  | 20 => ⟨S_, .i32⟩
  | 21 => ⟨S2x512x512, .i32⟩
  | 22 => ⟨S2x512x512, .f32⟩
  | 23 => ⟨S_, .f32⟩
  | 24 => ⟨S2x512x512, .f32⟩
  | 25 => ⟨S2x512x512, .i1⟩
  | 26 => ⟨S_, .f32⟩
  | 27 => ⟨S2x512x512, .f32⟩
  | 28 => ⟨S2x512x512, .i1⟩
  | 29 => ⟨S2x512x512, .i1⟩
  | 30 => ⟨S_, .f32⟩
  | 31 => ⟨S2x512x512, .f32⟩
  | 32 => ⟨S2x512x512, .f32⟩
  | 33 => ⟨S2x512x512, .f32⟩
  | 34 => ⟨S2x100x1, .i32⟩
  | 35 => ⟨S2x100, .i32⟩
  | 36 => ⟨S2x100x1, .i32⟩
  | 37 => ⟨S2x100, .i32⟩
  | 38 => ⟨S2x100x1, .i32⟩
  | 39 => ⟨S2x100, .i32⟩
  | 40 => ⟨S_, .i32⟩
  | 41 => ⟨S2x100, .i32⟩
  | 42 => ⟨S2x100, .i32⟩
  | 43 => ⟨S_, .i32⟩
  | 44 => ⟨S_, .i32⟩
  | 45 => ⟨S_, .i32⟩
  | 46 => ⟨S2x100, .i32⟩
  | 47 => ⟨S2x100, .i32⟩
  | 48 => ⟨S_, .i32⟩
  | 49 => ⟨S2x100, .i32⟩
  | 50 => ⟨S2x100, .i32⟩
  | 51 => ⟨S2x100x1, .i32⟩
  | 52 => ⟨S2x100, .i32⟩
  | 53 => ⟨S_, .i32⟩
  | 54 => ⟨S2x100, .i32⟩
  | 55 => ⟨S2x100, .i32⟩
  | 56 => ⟨S_, .i32⟩
  | 57 => ⟨S_, .i32⟩
  | 58 => ⟨S_, .i32⟩
  | 59 => ⟨S2x100, .i32⟩
  | 60 => ⟨S2x100, .i32⟩
  | 61 => ⟨S_, .i32⟩
  | 62 => ⟨S2x100, .i32⟩
  | 63 => ⟨S2x100, .i32⟩
  | 64 => ⟨S2x100, .i32⟩
  | 65 => ⟨S_, .i32⟩
  | 66 => ⟨S2x100, .i32⟩
  | 67 => ⟨S2x100, .i32⟩
  | 68 => ⟨S2x100, .f32⟩
  | 69 => ⟨S2x100, .i32⟩
  | 70 => ⟨S_, .i32⟩
  | 71 => ⟨S2x100, .i32⟩
  | 72 => ⟨S2x100, .i32⟩
  | 73 => ⟨S2x100, .f32⟩
  | 74 => ⟨S512, .i32⟩
  | 75 => ⟨S512, .i32⟩
  | 76 => ⟨S1x512, .i32⟩
  | 77 => ⟨S2x100x1, .i32⟩
  | 78 => ⟨S1x1x512, .i32⟩
  | 79 => ⟨S2x100x512, .i32⟩
  | 80 => ⟨S2x100x512, .i32⟩
  | 81 => ⟨S2x100x512, .i32⟩
  | 82 => ⟨S2x100x512, .f32⟩
  | 83 => ⟨S_, .f32⟩
  | 84 => ⟨S2x100x512, .f32⟩
  | 85 => ⟨S2x100x512, .f32⟩
  | 86 => ⟨S_, .f32⟩
  | 87 => ⟨S2x100, .f32⟩
  | 88 => ⟨S2x100, .f32⟩
  | 89 => ⟨S2x100x1, .f32⟩
  | 90 => ⟨S2x100x512, .f32⟩
  | 91 => ⟨S2x100x512, .f32⟩
  | 92 => ⟨S1x512, .i32⟩
  | 93 => ⟨S2x100x1, .i32⟩
  | 94 => ⟨S1x1x512, .i32⟩
  | 95 => ⟨S2x100x512, .i32⟩
  | 96 => ⟨S2x100x512, .i32⟩
  | 97 => ⟨S2x100x512, .i32⟩
  | 98 => ⟨S2x100x512, .f32⟩
  | 99 => ⟨S_, .f32⟩
  | 100 => ⟨S2x100x512, .f32⟩
  | 101 => ⟨S2x100x512, .f32⟩
  | 102 => ⟨S_, .f32⟩
  | 103 => ⟨S2x100, .f32⟩
  | 104 => ⟨S2x100, .f32⟩
  | 105 => ⟨S2x100x1, .f32⟩
  | 106 => ⟨S2x100x512, .f32⟩
  | 107 => ⟨S2x100x512, .f32⟩
  | 108 => ⟨S2x100x512, .f32⟩
  | 109 => ⟨S2x100x512, .i32⟩
  | 110 => ⟨S_, .i32⟩
  | 111 => ⟨S_, .i32⟩
  | 112 => ⟨S_, .i32⟩
  | 113 => ⟨S2x100x512, .i32⟩
  | 114 => ⟨S2x100x512, .i32⟩
  | 115 => ⟨S_, .i32⟩
  | 116 => ⟨S2x100x512, .i32⟩
  | 117 => ⟨S2x100x512, .i32⟩
  | 118 => ⟨S2x100x512, .f32⟩
  | 119 => ⟨S2x100x512, .i32⟩
  | 120 => ⟨S_, .i32⟩
  | 121 => ⟨S_, .i32⟩
  | 122 => ⟨S_, .i32⟩
  | 123 => ⟨S2x100x512, .i32⟩
  | 124 => ⟨S2x100x512, .i32⟩
  | 125 => ⟨S_, .i32⟩
  | 126 => ⟨S2x100x512, .i32⟩
  | 127 => ⟨S2x100x512, .i32⟩
  | _ => ⟨S2x100, .f32⟩

abbrev hbmTy0_2 (i : Nat) : BufTy := match i % 128 with
  | 0 => ⟨S2x100x512x1, .i32⟩
  | 1 => ⟨S2x100x1x512, .i32⟩
  | 2 => ⟨S_, .i32⟩
  | 3 => ⟨S2x100x512x1, .i32⟩
  | 4 => ⟨S2x100x512x1, .i1⟩
  | 5 => ⟨S_, .i32⟩
  | 6 => ⟨S2x100x512x1, .i32⟩
  | 7 => ⟨S2x100x512x1, .i32⟩
  | 8 => ⟨S2x100x512x1, .i32⟩
  | 9 => ⟨S_, .i32⟩
  | 10 => ⟨S2x100x1x512, .i32⟩
  | 11 => ⟨S2x100x1x512, .i1⟩
  | 12 => ⟨S_, .i32⟩
  | 13 => ⟨S2x100x1x512, .i32⟩
  | 14 => ⟨S2x100x1x512, .i32⟩
  | 15 => ⟨S2x100x1x512, .i32⟩
  | 16 => ⟨S2x100x512x512, .i32⟩
  | 17 => ⟨S2x100x512x512, .i32⟩
  | 18 => ⟨S2x100x512x512x1, .i32⟩
  | 19 => ⟨S2x100x512x512x1, .i32⟩
  | 20 => ⟨S2x100x512x512x2, .i32⟩
  | 21 => ⟨S2x100x512x512, .f32⟩
  | 22 => ⟨S1x512, .i32⟩
  | 23 => ⟨S2x100x1, .i32⟩
  | 24 => ⟨S1x1x512, .i32⟩
  | 25 => ⟨S2x100x512, .i32⟩
  | 26 => ⟨S2x100x512, .i32⟩
  | 27 => ⟨S2x100x512, .i1⟩
  | 28 => ⟨S1x512, .i32⟩
  | 29 => ⟨S2x100x1, .i32⟩
  | 30 => ⟨S1x1x512, .i32⟩
  | 31 => ⟨S2x100x512, .i32⟩
  | 32 => ⟨S2x100x512, .i32⟩
  | 33 => ⟨S2x100x512, .i1⟩
  | 34 => ⟨S2x100x512, .i1⟩
  | 35 => ⟨S2x100x512x1, .i1⟩
  | 36 => ⟨S1x512, .i32⟩
  | 37 => ⟨S2x100x1, .i32⟩
  | 38 => ⟨S1x1x512, .i32⟩
  | 39 => ⟨S2x100x512, .i32⟩
  | 40 => ⟨S2x100x512, .i32⟩
  | 41 => ⟨S2x100x512, .i1⟩
  | 42 => ⟨S1x512, .i32⟩
  | 43 => ⟨S2x100x1, .i32⟩
  | 44 => ⟨S1x1x512, .i32⟩
  | 45 => ⟨S2x100x512, .i32⟩
  | 46 => ⟨S2x100x512, .i32⟩
  | 47 => ⟨S2x100x512, .i1⟩
  | 48 => ⟨S2x100x512, .i1⟩
  | 49 => ⟨S2x100x1x512, .i1⟩
  | 50 => ⟨S2x100x512x512, .i1⟩
  | 51 => ⟨S2x100x512x512, .i1⟩
  | 52 => ⟨S2x100x512x512, .i1⟩
  | 53 => ⟨S_, .f32⟩
  | 54 => ⟨S_, .f32⟩
  | 55 => ⟨S512x512, .f32⟩
  | 56 => ⟨S100x512x512, .f32⟩
  | 57 => ⟨S2x100x512x512, .f32⟩
  | 58 => ⟨S2x100x512x512, .f32⟩
  | 59 => ⟨S_, .f32⟩
  | 60 => ⟨S2x100x512x512, .f32⟩
  | 61 => ⟨S2x100x512x512, .i1⟩
  | 62 => ⟨S_, .f32⟩
  | 63 => ⟨S2x100, .f32⟩
  | 64 => ⟨S2x100, .i1⟩
  | 65 => ⟨S2x100x1x1, .i1⟩
  | 66 => ⟨S2x100x512x512, .i1⟩
  | 67 => ⟨S2x100x512x512, .i1⟩
  | 68 => ⟨S2x100x1x1, .f32⟩
  | 69 => ⟨S_, .f32⟩
  | 70 => ⟨S_, .f32⟩
  | 71 => ⟨S2x100x512x512, .f32⟩
  | 72 => ⟨S100x512x512, .f32⟩
  | 73 => ⟨S2x100x512x512, .f32⟩
  | 74 => ⟨S2x100x512x512, .f32⟩
  | 75 => ⟨S100x512x512, .i32⟩
  | 76 => ⟨S_, .f32⟩
  | 77 => ⟨S2x512x512, .f32⟩
  | 78 => ⟨S2x1x512x512, .f32⟩
  | 79 => ⟨S2x100x512x512, .f32⟩
  | 80 => ⟨S2x100x512x512, .i1⟩
  | 81 => ⟨S_, .i32⟩
  | 82 => ⟨S_, .i32⟩
  | 83 => ⟨S100x512x512, .i32⟩
  | 84 => ⟨S2x100x512x512, .i32⟩
  | 85 => ⟨S2x100x512x512, .i32⟩
  | 86 => ⟨S2x100x512x512, .i32⟩
  | 87 => ⟨S_, .i32⟩
  | 88 => ⟨S2x512x512, .i32⟩
  | 89 => ⟨S_, .i1⟩
  | 90 => ⟨S2x512x512, .i1⟩
  | 91 => ⟨S_, .i32⟩
  | 92 => ⟨S2x512x512, .i32⟩
  | 93 => ⟨S2x512x512, .i1⟩
  | 94 => ⟨S_, .i32⟩
  | 95 => ⟨S2x512x512, .i32⟩
  | 96 => ⟨S2x512x512, .i32⟩
  | 97 => ⟨S2x512x512, .i32⟩
  | 98 => ⟨S2x512x512x1, .i32⟩
  | 99 => ⟨S2x512x512, .f32⟩
  | 100 => ⟨S_, .f32⟩
  | 101 => ⟨S_, .f32⟩
  | 102 => ⟨S512x512, .f32⟩
  | 103 => ⟨S2x512x512, .f32⟩
  | 104 => ⟨S2x512x512, .f32⟩
  | 105 => ⟨S2x512x512, .f32⟩
  | 106 => ⟨S_, .f32⟩
  | 107 => ⟨S2x512x512, .f32⟩
  | 108 => ⟨S2x512x512, .f32⟩
  | 109 => ⟨S_, .f32⟩
  | 110 => ⟨S_, .f32⟩
  | 111 => ⟨S512x512, .f32⟩
  | 112 => ⟨S2x512x512, .f32⟩
  | 113 => ⟨S2x512x512, .f32⟩
  | 114 => ⟨S_, .f32⟩
  | 115 => ⟨S2x512x512, .f32⟩
  | 116 => ⟨S2x512x512, .i1⟩
  | 117 => ⟨S_, .f32⟩
  | 118 => ⟨S2x512x512, .f32⟩
  | 119 => ⟨S2x512x512, .i1⟩
  | 120 => ⟨S2x512x512, .i1⟩
  | 121 => ⟨S_, .f32⟩
  | 122 => ⟨S2x512x512, .f32⟩
  | 123 => ⟨S2x512x512, .i1⟩
  | 124 => ⟨S2x512x512, .i1⟩
  | 125 => ⟨S2x512x512, .f32⟩
  | 126 => ⟨S2x512x512, .i32⟩
  | 127 => ⟨S2x512x512, .i32⟩
  | _ => ⟨S2x100, .f32⟩

abbrev hbmTy (i : Nat) : BufTy := match i / 128 with
  | 0 => hbmTy0_0 i
  | 1 => hbmTy0_1 i
  | 2 => hbmTy0_2 i
  | _ => ⟨S2x100, .f32⟩

abbrev bufTy : (tb : Table) → Fin (tcTables nBuf tb) → BufTy
  | .hbm, ⟨i, _⟩ => hbmTy i
  | _, _ => ⟨S2x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_call0_cst_0 : Ref sig .tc := ⟨.hbm, 10, rfl⟩
abbrev main_call0_v3 : Ref sig .tc := ⟨.hbm, 11, rfl⟩
abbrev main_call0_v4 : Ref sig .tc := ⟨.hbm, 12, rfl⟩
abbrev main_call0_cst_1 : Ref sig .tc := ⟨.hbm, 13, rfl⟩
abbrev main_call0_v5 : Ref sig .tc := ⟨.hbm, 14, rfl⟩
abbrev main_call0_v6 : Ref sig .tc := ⟨.hbm, 15, rfl⟩
abbrev main_call0_cst_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_cst_3 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_cst_4 : Ref sig .tc := ⟨.hbm, 30, rfl⟩
abbrev main_call0_v19 : Ref sig .tc := ⟨.hbm, 31, rfl⟩
abbrev main_call0_v20 : Ref sig .tc := ⟨.hbm, 32, rfl⟩
abbrev main_call0_cst_5 : Ref sig .tc := ⟨.hbm, 33, rfl⟩
abbrev main_call0_v21 : Ref sig .tc := ⟨.hbm, 34, rfl⟩
abbrev main_call0_v22 : Ref sig .tc := ⟨.hbm, 35, rfl⟩
abbrev main_call0_cst_6 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_cst_7 : Ref sig .tc := ⟨.hbm, 40, rfl⟩
abbrev main_call0_v26 : Ref sig .tc := ⟨.hbm, 41, rfl⟩
abbrev main_call0_v27 : Ref sig .tc := ⟨.hbm, 42, rfl⟩
abbrev main_call0_cst_8 : Ref sig .tc := ⟨.hbm, 43, rfl⟩
abbrev main_call0_v28 : Ref sig .tc := ⟨.hbm, 44, rfl⟩
abbrev main_call0_v29 : Ref sig .tc := ⟨.hbm, 45, rfl⟩
abbrev main_call0_c : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_c_9 : Ref sig .tc := ⟨.hbm, 52, rfl⟩
abbrev main_call0_call1_v0 : Ref sig .tc := ⟨.hbm, 53, rfl⟩
abbrev main_call0_call1_v1 : Ref sig .tc := ⟨.hbm, 54, rfl⟩
abbrev main_call0_call1_v2 : Ref sig .tc := ⟨.hbm, 55, rfl⟩
abbrev main_call0_v33 : Ref sig .tc := ⟨.hbm, 56, rfl⟩
abbrev main_call0_cst_10 : Ref sig .tc := ⟨.hbm, 57, rfl⟩
abbrev main_call0_v34 : Ref sig .tc := ⟨.hbm, 58, rfl⟩
abbrev main_call0_v35 : Ref sig .tc := ⟨.hbm, 59, rfl⟩
abbrev main_call0_cst_11 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_c_12 : Ref sig .tc := ⟨.hbm, 65, rfl⟩
abbrev main_call0_call2_v0 : Ref sig .tc := ⟨.hbm, 66, rfl⟩
abbrev main_call0_call2_v1 : Ref sig .tc := ⟨.hbm, 67, rfl⟩
abbrev main_call0_call2_v2 : Ref sig .tc := ⟨.hbm, 68, rfl⟩
abbrev main_call0_v40 : Ref sig .tc := ⟨.hbm, 69, rfl⟩
abbrev main_call0_v41 : Ref sig .tc := ⟨.hbm, 70, rfl⟩
abbrev main_v1 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_call1_cst_0 : Ref sig .tc := ⟨.hbm, 76, rfl⟩
abbrev main_call1_v3 : Ref sig .tc := ⟨.hbm, 77, rfl⟩
abbrev main_call1_v4 : Ref sig .tc := ⟨.hbm, 78, rfl⟩
abbrev main_call1_cst_1 : Ref sig .tc := ⟨.hbm, 79, rfl⟩
abbrev main_call1_v5 : Ref sig .tc := ⟨.hbm, 80, rfl⟩
abbrev main_call1_v6 : Ref sig .tc := ⟨.hbm, 81, rfl⟩
abbrev main_call1_cst_2 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_v15 : Ref sig .tc := ⟨.hbm, 91, rfl⟩
abbrev main_call1_cst_3 : Ref sig .tc := ⟨.hbm, 92, rfl⟩
abbrev main_call1_v16 : Ref sig .tc := ⟨.hbm, 93, rfl⟩
abbrev main_call1_v17 : Ref sig .tc := ⟨.hbm, 94, rfl⟩
abbrev main_call1_v18 : Ref sig .tc := ⟨.hbm, 95, rfl⟩
abbrev main_call1_cst_4 : Ref sig .tc := ⟨.hbm, 96, rfl⟩
abbrev main_call1_v19 : Ref sig .tc := ⟨.hbm, 97, rfl⟩
abbrev main_call1_v20 : Ref sig .tc := ⟨.hbm, 98, rfl⟩
abbrev main_call1_cst_5 : Ref sig .tc := ⟨.hbm, 99, rfl⟩
abbrev main_call1_v21 : Ref sig .tc := ⟨.hbm, 100, rfl⟩
abbrev main_call1_v22 : Ref sig .tc := ⟨.hbm, 101, rfl⟩
abbrev main_call1_cst_6 : Ref sig .tc := ⟨.hbm, 102, rfl⟩
abbrev main_call1_v23 : Ref sig .tc := ⟨.hbm, 103, rfl⟩
abbrev main_call1_v24 : Ref sig .tc := ⟨.hbm, 104, rfl⟩
abbrev main_call1_v25 : Ref sig .tc := ⟨.hbm, 105, rfl⟩
abbrev main_call1_cst_7 : Ref sig .tc := ⟨.hbm, 106, rfl⟩
abbrev main_call1_v26 : Ref sig .tc := ⟨.hbm, 107, rfl⟩
abbrev main_call1_v27 : Ref sig .tc := ⟨.hbm, 108, rfl⟩
abbrev main_call1_cst_8 : Ref sig .tc := ⟨.hbm, 109, rfl⟩
abbrev main_call1_v28 : Ref sig .tc := ⟨.hbm, 110, rfl⟩
abbrev main_call1_v29 : Ref sig .tc := ⟨.hbm, 111, rfl⟩
abbrev main_call1_c : Ref sig .tc := ⟨.hbm, 112, rfl⟩
abbrev main_call1_call0_v0 : Ref sig .tc := ⟨.hbm, 113, rfl⟩
abbrev main_call1_call0_v1 : Ref sig .tc := ⟨.hbm, 114, rfl⟩
abbrev main_call1_v30 : Ref sig .tc := ⟨.hbm, 115, rfl⟩
abbrev main_call1_v31 : Ref sig .tc := ⟨.hbm, 116, rfl⟩
abbrev main_call1_v32 : Ref sig .tc := ⟨.hbm, 117, rfl⟩
abbrev main_call1_c_9 : Ref sig .tc := ⟨.hbm, 118, rfl⟩
abbrev main_call1_call1_v0 : Ref sig .tc := ⟨.hbm, 119, rfl⟩
abbrev main_call1_call1_v1 : Ref sig .tc := ⟨.hbm, 120, rfl⟩
abbrev main_call1_call1_v2 : Ref sig .tc := ⟨.hbm, 121, rfl⟩
abbrev main_call1_v33 : Ref sig .tc := ⟨.hbm, 122, rfl⟩
abbrev main_call1_cst_10 : Ref sig .tc := ⟨.hbm, 123, rfl⟩
abbrev main_call1_v34 : Ref sig .tc := ⟨.hbm, 124, rfl⟩
abbrev main_call1_v35 : Ref sig .tc := ⟨.hbm, 125, rfl⟩
abbrev main_call1_cst_11 : Ref sig .tc := ⟨.hbm, 126, rfl⟩
abbrev main_call1_v36 : Ref sig .tc := ⟨.hbm, 127, rfl⟩
abbrev main_call1_v37 : Ref sig .tc := ⟨.hbm, 128, rfl⟩
abbrev main_call1_v38 : Ref sig .tc := ⟨.hbm, 129, rfl⟩
abbrev main_call1_v39 : Ref sig .tc := ⟨.hbm, 130, rfl⟩
abbrev main_call1_c_12 : Ref sig .tc := ⟨.hbm, 131, rfl⟩
abbrev main_call1_call2_v0 : Ref sig .tc := ⟨.hbm, 132, rfl⟩
abbrev main_call1_call2_v1 : Ref sig .tc := ⟨.hbm, 133, rfl⟩
abbrev main_call1_call2_v2 : Ref sig .tc := ⟨.hbm, 134, rfl⟩
abbrev main_call1_v40 : Ref sig .tc := ⟨.hbm, 135, rfl⟩
abbrev main_call1_v41 : Ref sig .tc := ⟨.hbm, 136, rfl⟩
abbrev main_v2 : Ref sig .tc := ⟨.hbm, 137, rfl⟩
abbrev main_v3 : Ref sig .tc := ⟨.hbm, 138, rfl⟩
abbrev main_cst : Ref sig .tc := ⟨.hbm, 139, rfl⟩
abbrev main_v4 : Ref sig .tc := ⟨.hbm, 140, rfl⟩
abbrev main_v5 : Ref sig .tc := ⟨.hbm, 141, rfl⟩
abbrev main_v6 : Ref sig .tc := ⟨.hbm, 142, rfl⟩
abbrev main_v7 : Ref sig .tc := ⟨.hbm, 143, rfl⟩
abbrev main_c : Ref sig .tc := ⟨.hbm, 144, rfl⟩
abbrev main_call2_v0 : Ref sig .tc := ⟨.hbm, 145, rfl⟩
abbrev main_call2_v1 : Ref sig .tc := ⟨.hbm, 146, rfl⟩
abbrev main_v8 : Ref sig .tc := ⟨.hbm, 147, rfl⟩
abbrev main_c_0 : Ref sig .tc := ⟨.hbm, 148, rfl⟩
abbrev main_v9 : Ref sig .tc := ⟨.hbm, 149, rfl⟩
abbrev main_v10 : Ref sig .tc := ⟨.hbm, 150, rfl⟩
abbrev main_cst_1 : Ref sig .tc := ⟨.hbm, 151, rfl⟩
abbrev main_v11 : Ref sig .tc := ⟨.hbm, 152, rfl⟩
abbrev main_v12 : Ref sig .tc := ⟨.hbm, 153, rfl⟩
abbrev main_cst_2 : Ref sig .tc := ⟨.hbm, 154, rfl⟩
abbrev main_v13 : Ref sig .tc := ⟨.hbm, 155, rfl⟩
abbrev main_v14 : Ref sig .tc := ⟨.hbm, 156, rfl⟩
abbrev main_v15 : Ref sig .tc := ⟨.hbm, 157, rfl⟩
abbrev main_cst_3 : Ref sig .tc := ⟨.hbm, 158, rfl⟩
abbrev main_v16 : Ref sig .tc := ⟨.hbm, 159, rfl⟩
abbrev main_v17 : Ref sig .tc := ⟨.hbm, 160, rfl⟩
abbrev main_v18 : Ref sig .tc := ⟨.hbm, 161, rfl⟩
abbrev main_v19 : Ref sig .tc := ⟨.hbm, 162, rfl⟩
abbrev main_v20 : Ref sig .tc := ⟨.hbm, 163, rfl⟩
abbrev main_v21 : Ref sig .tc := ⟨.hbm, 164, rfl⟩
abbrev main_v22 : Ref sig .tc := ⟨.hbm, 165, rfl⟩
abbrev main_v23 : Ref sig .tc := ⟨.hbm, 166, rfl⟩
abbrev main_v24 : Ref sig .tc := ⟨.hbm, 167, rfl⟩
abbrev main_c_4 : Ref sig .tc := ⟨.hbm, 168, rfl⟩
abbrev main_v25 : Ref sig .tc := ⟨.hbm, 169, rfl⟩
abbrev main_v26 : Ref sig .tc := ⟨.hbm, 170, rfl⟩
abbrev main_c_5 : Ref sig .tc := ⟨.hbm, 171, rfl⟩
abbrev main_c_6 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_v27 : Ref sig .tc := ⟨.hbm, 178, rfl⟩
abbrev main_v28 : Ref sig .tc := ⟨.hbm, 179, rfl⟩
abbrev main_v29 : Ref sig .tc := ⟨.hbm, 180, rfl⟩
abbrev main_c_7 : Ref sig .tc := ⟨.hbm, 181, rfl⟩
abbrev main_v30 : Ref sig .tc := ⟨.hbm, 182, rfl⟩
abbrev main_v31 : Ref sig .tc := ⟨.hbm, 183, rfl⟩
abbrev main_c_8 : Ref sig .tc := ⟨.hbm, 184, rfl⟩
abbrev main_c_9 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_v32 : Ref sig .tc := ⟨.hbm, 191, rfl⟩
abbrev main_v33 : Ref sig .tc := ⟨.hbm, 192, rfl⟩
abbrev main_c_10 : Ref sig .tc := ⟨.hbm, 193, rfl⟩
abbrev main_v34 : Ref sig .tc := ⟨.hbm, 194, rfl⟩
abbrev main_v35 : Ref sig .tc := ⟨.hbm, 195, rfl⟩
abbrev main_v36 : Ref sig .tc := ⟨.hbm, 196, rfl⟩
abbrev main_v37 : Ref sig .tc := ⟨.hbm, 197, rfl⟩
abbrev main_c_11 : Ref sig .tc := ⟨.hbm, 198, rfl⟩
abbrev main_v38 : Ref sig .tc := ⟨.hbm, 199, rfl⟩
abbrev main_v39 : Ref sig .tc := ⟨.hbm, 200, rfl⟩
abbrev main_v40 : Ref sig .tc := ⟨.hbm, 201, rfl⟩
abbrev main_v41 : Ref sig .tc := ⟨.hbm, 202, rfl⟩
abbrev main_v42 : Ref sig .tc := ⟨.hbm, 203, rfl⟩
abbrev main_v43 : Ref sig .tc := ⟨.hbm, 204, rfl⟩
abbrev main_v44 : Ref sig .tc := ⟨.hbm, 205, rfl⟩
abbrev main_v45 : Ref sig .tc := ⟨.hbm, 206, rfl⟩
abbrev main_v46 : Ref sig .tc := ⟨.hbm, 207, rfl⟩
abbrev main_v47 : Ref sig .tc := ⟨.hbm, 208, rfl⟩
abbrev main_v48 : Ref sig .tc := ⟨.hbm, 209, rfl⟩
abbrev main_v49 : Ref sig .tc := ⟨.hbm, 210, rfl⟩
abbrev main_cst_12 : Ref sig .tc := ⟨.hbm, 211, rfl⟩
abbrev main_v50 : Ref sig .tc := ⟨.hbm, 212, rfl⟩
abbrev main_v51 : Ref sig .tc := ⟨.hbm, 213, rfl⟩
abbrev main_cst_13 : Ref sig .tc := ⟨.hbm, 214, rfl⟩
abbrev main_v52 : Ref sig .tc := ⟨.hbm, 215, rfl⟩
abbrev main_v53 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_v58 : Ref sig .tc := ⟨.hbm, 221, rfl⟩
abbrev main_v59 : Ref sig .tc := ⟨.hbm, 222, rfl⟩
abbrev main_v60 : Ref sig .tc := ⟨.hbm, 223, rfl⟩
abbrev main_v61 : Ref sig .tc := ⟨.hbm, 224, rfl⟩
abbrev main_v62 : Ref sig .tc := ⟨.hbm, 225, rfl⟩
abbrev main_v63 : Ref sig .tc := ⟨.hbm, 226, rfl⟩
abbrev main_cst_14 : Ref sig .tc := ⟨.hbm, 227, rfl⟩
abbrev main_v64 : Ref sig .tc := ⟨.hbm, 228, rfl⟩
abbrev main_v65 : Ref sig .tc := ⟨.hbm, 229, rfl⟩
abbrev main_cst_15 : Ref sig .tc := ⟨.hbm, 230, rfl⟩
abbrev main_v66 : Ref sig .tc := ⟨.hbm, 231, rfl⟩
abbrev main_v67 : Ref sig .tc := ⟨.hbm, 232, rfl⟩
abbrev main_v68 : Ref sig .tc := ⟨.hbm, 233, rfl⟩
abbrev main_v69 : Ref sig .tc := ⟨.hbm, 234, rfl⟩
abbrev main_v70 : Ref sig .tc := ⟨.hbm, 235, rfl⟩
abbrev main_v71 : Ref sig .tc := ⟨.hbm, 236, rfl⟩
abbrev main_v72 : Ref sig .tc := ⟨.hbm, 237, rfl⟩
abbrev main_c_16 : Ref sig .tc := ⟨.hbm, 238, rfl⟩
abbrev main_c_17 : Ref sig .tc := ⟨.hbm, 239, rfl⟩
abbrev main_call6_v0 : Ref sig .tc := ⟨.hbm, 240, rfl⟩
abbrev main_call6_v1 : Ref sig .tc := ⟨.hbm, 241, rfl⟩
abbrev main_call6_v2 : Ref sig .tc := ⟨.hbm, 242, rfl⟩
abbrev main_call6_v3 : Ref sig .tc := ⟨.hbm, 243, rfl⟩
abbrev main_call6_v4 : Ref sig .tc := ⟨.hbm, 244, rfl⟩
abbrev main_v73 : Ref sig .tc := ⟨.hbm, 245, rfl⟩
abbrev main_v74 : Ref sig .tc := ⟨.hbm, 246, rfl⟩
abbrev main_v75 : Ref sig .tc := ⟨.hbm, 247, rfl⟩
abbrev main_c_18 : Ref sig .tc := ⟨.hbm, 248, rfl⟩
abbrev main_c_19 : Ref sig .tc := ⟨.hbm, 249, rfl⟩
abbrev main_call7_v0 : Ref sig .tc := ⟨.hbm, 250, rfl⟩
abbrev main_call7_v1 : Ref sig .tc := ⟨.hbm, 251, rfl⟩
abbrev main_call7_v2 : Ref sig .tc := ⟨.hbm, 252, rfl⟩
abbrev main_call7_v3 : Ref sig .tc := ⟨.hbm, 253, rfl⟩
abbrev main_call7_v4 : Ref sig .tc := ⟨.hbm, 254, rfl⟩
abbrev main_v76 : Ref sig .tc := ⟨.hbm, 255, rfl⟩
abbrev main_v77 : Ref sig .tc := ⟨.hbm, 256, rfl⟩
abbrev main_v78 : Ref sig .tc := ⟨.hbm, 257, rfl⟩
abbrev main_c_20 : Ref sig .tc := ⟨.hbm, 258, rfl⟩
abbrev main_v79 : Ref sig .tc := ⟨.hbm, 259, rfl⟩
abbrev main_v80 : Ref sig .tc := ⟨.hbm, 260, rfl⟩
abbrev main_c_21 : Ref sig .tc := ⟨.hbm, 261, rfl⟩
abbrev main_v81 : Ref sig .tc := ⟨.hbm, 262, rfl⟩
abbrev main_v82 : Ref sig .tc := ⟨.hbm, 263, rfl⟩
abbrev main_v83 : Ref sig .tc := ⟨.hbm, 264, rfl⟩
abbrev main_c_22 : Ref sig .tc := ⟨.hbm, 265, rfl⟩
abbrev main_v84 : Ref sig .tc := ⟨.hbm, 266, rfl⟩
abbrev main_v85 : Ref sig .tc := ⟨.hbm, 267, rfl⟩
abbrev main_c_23 : Ref sig .tc := ⟨.hbm, 268, rfl⟩
abbrev main_v86 : Ref sig .tc := ⟨.hbm, 269, rfl⟩
abbrev main_v87 : Ref sig .tc := ⟨.hbm, 270, rfl⟩
abbrev main_v88 : Ref sig .tc := ⟨.hbm, 271, rfl⟩
abbrev main_v89 : Ref sig .tc := ⟨.hbm, 272, rfl⟩
abbrev main_v90 : Ref sig .tc := ⟨.hbm, 273, rfl⟩
abbrev main_v91 : Ref sig .tc := ⟨.hbm, 274, rfl⟩
abbrev main_v92 : Ref sig .tc := ⟨.hbm, 275, rfl⟩
abbrev main_v93 : Ref sig .tc := ⟨.hbm, 276, rfl⟩
abbrev main_v94 : Ref sig .tc := ⟨.hbm, 277, rfl⟩
abbrev main_v95 : Ref sig .tc := ⟨.hbm, 278, rfl⟩
abbrev main_v96 : Ref sig .tc := ⟨.hbm, 279, rfl⟩
abbrev main_v97 : Ref sig .tc := ⟨.hbm, 280, rfl⟩
abbrev main_v98 : Ref sig .tc := ⟨.hbm, 281, rfl⟩
abbrev main_v99 : Ref sig .tc := ⟨.hbm, 282, rfl⟩
abbrev main_v100 : Ref sig .tc := ⟨.hbm, 283, rfl⟩
abbrev main_v101 : Ref sig .tc := ⟨.hbm, 284, rfl⟩
abbrev main_v102 : Ref sig .tc := ⟨.hbm, 285, rfl⟩
abbrev main_v103 : Ref sig .tc := ⟨.hbm, 286, rfl⟩
abbrev main_v104 : Ref sig .tc := ⟨.hbm, 287, rfl⟩
abbrev main_v105 : Ref sig .tc := ⟨.hbm, 288, rfl⟩
abbrev main_v106 : Ref sig .tc := ⟨.hbm, 289, rfl⟩
abbrev main_v107 : Ref sig .tc := ⟨.hbm, 290, rfl⟩
abbrev main_v108 : Ref sig .tc := ⟨.hbm, 291, rfl⟩
abbrev main_v109 : Ref sig .tc := ⟨.hbm, 292, rfl⟩
abbrev main_v110 : Ref sig .tc := ⟨.hbm, 293, rfl⟩
abbrev main_v111 : Ref sig .tc := ⟨.hbm, 294, rfl⟩
abbrev main_v112 : Ref sig .tc := ⟨.hbm, 295, rfl⟩
abbrev main_v113 : Ref sig .tc := ⟨.hbm, 296, rfl⟩
abbrev main_v114 : Ref sig .tc := ⟨.hbm, 297, rfl⟩
abbrev main_v115 : Ref sig .tc := ⟨.hbm, 298, rfl⟩
abbrev main_v116 : Ref sig .tc := ⟨.hbm, 299, rfl⟩
abbrev main_v117 : Ref sig .tc := ⟨.hbm, 300, rfl⟩
abbrev main_v118 : Ref sig .tc := ⟨.hbm, 301, rfl⟩
abbrev main_v119 : Ref sig .tc := ⟨.hbm, 302, rfl⟩
abbrev main_v120 : Ref sig .tc := ⟨.hbm, 303, rfl⟩
abbrev main_v121 : Ref sig .tc := ⟨.hbm, 304, rfl⟩
abbrev main_v122 : Ref sig .tc := ⟨.hbm, 305, rfl⟩
abbrev main_v123 : Ref sig .tc := ⟨.hbm, 306, rfl⟩
abbrev main_v124 : Ref sig .tc := ⟨.hbm, 307, rfl⟩
abbrev main_v125 : Ref sig .tc := ⟨.hbm, 308, rfl⟩
abbrev main_cst_24 : Ref sig .tc := ⟨.hbm, 309, rfl⟩
abbrev main_call8_v0 : Ref sig .tc := ⟨.hbm, 310, rfl⟩
abbrev main_call8_v1 : Ref sig .tc := ⟨.hbm, 311, rfl⟩
abbrev main_call8_v2 : Ref sig .tc := ⟨.hbm, 312, rfl⟩
abbrev main_call8_v3 : Ref sig .tc := ⟨.hbm, 313, rfl⟩
abbrev main_v126 : Ref sig .tc := ⟨.hbm, 314, rfl⟩
abbrev main_cst_25 : Ref sig .tc := ⟨.hbm, 315, rfl⟩
abbrev main_v127 : Ref sig .tc := ⟨.hbm, 316, rfl⟩
abbrev main_v128 : Ref sig .tc := ⟨.hbm, 317, rfl⟩
abbrev main_cst_26 : Ref sig .tc := ⟨.hbm, 318, rfl⟩
abbrev main_v129 : Ref sig .tc := ⟨.hbm, 319, rfl⟩
abbrev main_v130 : Ref sig .tc := ⟨.hbm, 320, rfl⟩
abbrev main_v131 : Ref sig .tc := ⟨.hbm, 321, rfl⟩
abbrev main_v132 : Ref sig .tc := ⟨.hbm, 322, rfl⟩
abbrev main_v133 : Ref sig .tc := ⟨.hbm, 323, rfl⟩
abbrev main_v134 : Ref sig .tc := ⟨.hbm, 324, rfl⟩
abbrev main_cst_27 : Ref sig .tc := ⟨.hbm, 325, rfl⟩
abbrev main_call9_v0 : Ref sig .tc := ⟨.hbm, 326, rfl⟩
abbrev main_call9_v1 : Ref sig .tc := ⟨.hbm, 327, rfl⟩
abbrev main_call9_v2 : Ref sig .tc := ⟨.hbm, 328, rfl⟩
abbrev main_call9_v3 : Ref sig .tc := ⟨.hbm, 329, rfl⟩
abbrev main_v135 : Ref sig .tc := ⟨.hbm, 330, rfl⟩
abbrev main_v136 : Ref sig .tc := ⟨.hbm, 331, rfl⟩
abbrev main_cst_28 : Ref sig .tc := ⟨.hbm, 332, rfl⟩
abbrev main_v137 : Ref sig .tc := ⟨.hbm, 333, rfl⟩
abbrev main_v138 : Ref sig .tc := ⟨.hbm, 334, rfl⟩
abbrev main_v139 : Ref sig .tc := ⟨.hbm, 335, rfl⟩
abbrev main_v140 : Ref sig .tc := ⟨.hbm, 336, rfl⟩
abbrev main_c_29 : Ref sig .tc := ⟨.hbm, 337, rfl⟩
abbrev main_call10_v0 : Ref sig .tc := ⟨.hbm, 338, rfl⟩
abbrev main_call10_v1 : Ref sig .tc := ⟨.hbm, 339, rfl⟩
abbrev main_call10_v2 : Ref sig .tc := ⟨.hbm, 340, rfl⟩
abbrev main_call10_v3 : Ref sig .tc := ⟨.hbm, 341, rfl⟩
abbrev main_v141 : Ref sig .tc := ⟨.hbm, 342, rfl⟩
abbrev main_c_30 : Ref sig .tc := ⟨.hbm, 343, rfl⟩
abbrev main_v142 : Ref sig .tc := ⟨.hbm, 344, rfl⟩
abbrev main_c_31 : Ref sig .tc := ⟨.hbm, 345, rfl⟩
abbrev main_v143 : Ref sig .tc := ⟨.hbm, 346, rfl⟩
abbrev main_c_32 : Ref sig .tc := ⟨.hbm, 347, rfl⟩
abbrev main_v144 : Ref sig .tc := ⟨.hbm, 348, rfl⟩
abbrev main_v145 : Ref sig .tc := ⟨.hbm, 349, rfl⟩
abbrev main_c_33 : Ref sig .tc := ⟨.hbm, 350, rfl⟩
abbrev main_v146 : Ref sig .tc := ⟨.hbm, 351, rfl⟩
abbrev main_v147 : Ref sig .tc := ⟨.hbm, 352, rfl⟩
abbrev main_v148 : Ref sig .tc := ⟨.hbm, 353, rfl⟩
abbrev main_v149 : Ref sig .tc := ⟨.hbm, 354, rfl⟩
abbrev main_v150 : Ref sig .tc := ⟨.hbm, 355, rfl⟩
abbrev main_cst_34 : Ref sig .tc := ⟨.hbm, 356, rfl⟩
abbrev main_call11_v0 : Ref sig .tc := ⟨.hbm, 357, rfl⟩
abbrev main_call11_v1 : Ref sig .tc := ⟨.hbm, 358, rfl⟩
abbrev main_call11_v2 : Ref sig .tc := ⟨.hbm, 359, rfl⟩
abbrev main_v151 : Ref sig .tc := ⟨.hbm, 360, rfl⟩
abbrev main_v152 : Ref sig .tc := ⟨.hbm, 361, rfl⟩
abbrev main_cst_35 : Ref sig .tc := ⟨.hbm, 362, rfl⟩
abbrev main_v153 : Ref sig .tc := ⟨.hbm, 363, rfl⟩
abbrev main_v154 : Ref sig .tc := ⟨.hbm, 364, rfl⟩
abbrev main_cst_36 : Ref sig .tc := ⟨.hbm, 365, rfl⟩
abbrev main_call12_v0 : Ref sig .tc := ⟨.hbm, 366, rfl⟩
abbrev main_call12_v1 : Ref sig .tc := ⟨.hbm, 367, rfl⟩
abbrev main_call12_v2 : Ref sig .tc := ⟨.hbm, 368, rfl⟩
abbrev main_v155 : Ref sig .tc := ⟨.hbm, 369, rfl⟩
abbrev main_cst_37 : Ref sig .tc := ⟨.hbm, 370, rfl⟩
abbrev main_v156 : Ref sig .tc := ⟨.hbm, 371, rfl⟩
abbrev main_v157 : Ref sig .tc := ⟨.hbm, 372, rfl⟩
abbrev main_cst_38 : Ref sig .tc := ⟨.hbm, 373, rfl⟩
abbrev main_v158 : Ref sig .tc := ⟨.hbm, 374, rfl⟩
abbrev main_v159 : Ref sig .tc := ⟨.hbm, 375, rfl⟩
abbrev main_v160 : Ref sig .tc := ⟨.hbm, 376, rfl⟩
abbrev main_cst_39 : Ref sig .tc := ⟨.hbm, 377, rfl⟩
abbrev main_v161 : Ref sig .tc := ⟨.hbm, 378, rfl⟩
abbrev main_v162 : Ref sig .tc := ⟨.hbm, 379, rfl⟩
abbrev main_v163 : Ref sig .tc := ⟨.hbm, 380, rfl⟩
abbrev main_v164 : Ref sig .tc := ⟨.hbm, 381, rfl⟩
abbrev main_v165 : Ref sig .tc := ⟨.hbm, 382, rfl⟩
abbrev main_v166 : Ref sig .tc := ⟨.hbm, 383, rfl⟩

abbrev nD : Nat := 1
abbrev τ : Topo := Topo.v7x

variable {F : FTy → Type} [FloatOps F]
-- ==== Proof.Spec.lean ====
/- The mathematics both programs compute, over the extended reals: the first greatest of finitely many values, the
   rank-and-class encoding of a detection, and the fourfold half-pixel upsampling. -/
module

public import Idealize.ShloMosaic.Lib.Pointwise

@[expose] public section

noncomputable section

namespace Cert.Panoptic

open Idealize.ShloMosaic

/-- `i` is the first index satisfying `P` at which `u` is greatest among those, and `v` is that value. -/
structure FirstMax (P : ℕ → Prop) (u : ℕ → EReal) (v : EReal) (i : ℕ) : Prop where
  mem : P i
  val : v = u i
  le : ∀ j, P j → u j ≤ v
  lt : ∀ j, P j → j < i → u j < v

namespace FirstMax

variable {P Q : ℕ → Prop} {u : ℕ → EReal} {v w : EReal} {i j : ℕ}

/-- The first greatest index is unique. -/
theorem unique (h : FirstMax P u v i) (h' : FirstMax P u w j) : i = j := by
  have e : v = w := le_antisymm (h.val ▸ h'.le i h.mem) (h'.val ▸ h.le j h'.mem)
  subst e
  rcases lt_trichotomy i j with g | g | g
  · exact absurd h.val (h'.lt i h.mem g).ne'
  · exact g
  · exact absurd h'.val (h.lt j h'.mem g).ne'

/-- A set of one index. -/
theorem single (u : ℕ → EReal) (j : ℕ) : FirstMax (fun k => k = j) u (u j) j :=
  ⟨rfl, rfl, fun k hk => by rw [hk], fun k hk hlt => by omega⟩

/-- Only the set's members matter. -/
theorem congr (h : FirstMax P u v i) (hPQ : ∀ k, P k ↔ Q k) : FirstMax Q u v i :=
  ⟨(hPQ i).1 h.mem, h.val, fun k hk => h.le k ((hPQ k).2 hk), fun k hk => h.lt k ((hPQ k).2 hk)⟩

/-- Joining two sets of which the second lies after the first (or inside it): the second's value wins only if strictly
    greater. -/
theorem pair (hP : FirstMax P u v i) (hQ : FirstMax Q u w j) (h : ∀ k, Q k → P k ∨ ∀ l, P l → l < k) :
    FirstMax (fun k => P k ∨ Q k) u (if v < w then w else v) (if v < w then j else i) := by
  by_cases c : v < w
  · simp only [c, if_true]
    refine ⟨Or.inr hQ.mem, hQ.val, fun k hk => ?_, fun k hk hlt => ?_⟩
    · rcases hk with hk | hk
      · exact (hP.le k hk).trans c.le
      · exact hQ.le k hk
    · rcases hk with hk | hk
      · exact (hP.le k hk).trans_lt c
      · exact hQ.lt k hk hlt
  · simp only [c, if_false]
    refine ⟨Or.inl hP.mem, hP.val, fun k hk => ?_, fun k hk hlt => ?_⟩
    · rcases hk with hk | hk
      · exact hP.le k hk
      · exact (hQ.le k hk).trans (not_lt.1 c)
    · rcases hk with hk | hk
      · exact hP.lt k hk hlt
      · rcases h k hk with g | g
        · exact hP.lt k g hlt
        · exact absurd (g i hP.mem) (by omega)

/-- A nonempty set of indices below `n` has a first greatest. -/
theorem exists_of {n : ℕ} (u : ℕ → EReal) (hP : ∀ k, P k → k < n) (hne : ∃ k, P k) :
    ∃ i, FirstMax P u (u i) i := by
  classical
  obtain ⟨k₀, hk₀⟩ := hne
  obtain ⟨m, hm, hmax⟩ := Finset.exists_max_image ((Finset.range n).filter P) u
    ⟨k₀, Finset.mem_filter.2 ⟨Finset.mem_range.2 (hP _ hk₀), hk₀⟩⟩
  have hm' := (Finset.mem_filter.1 hm).2
  have hle : ∀ k, P k → u k ≤ u m := fun k hk => hmax k (Finset.mem_filter.2 ⟨Finset.mem_range.2 (hP _ hk), hk⟩)
  have hex : ∃ i, P i ∧ u i = u m := ⟨m, hm', rfl⟩
  refine ⟨Nat.find hex, (Nat.find_spec hex).1, rfl, fun k hk => ?_, fun k hk hlt => ?_⟩
  · rw [(Nat.find_spec hex).2]; exact hle k hk
  · rw [(Nat.find_spec hex).2]
    exact lt_of_le_of_ne (hle k hk) fun e => Nat.find_min hex hlt ⟨hk, e⟩

/-- Masking the values outside a set to `⊥` leaves the first greatest of the set's members (all above `⊥`). -/
theorem mask [DecidablePred P] {n : ℕ} (h : FirstMax P u v i) (hP : ∀ k, P k → k < n) (hbot : ∀ k, P k → ⊥ < u k) :
    FirstMax (fun k => k < n) (fun k => if P k then u k else ⊥) v i := by
  refine ⟨hP _ h.mem, by simp only [h.mem, if_true]; exact h.val, fun k _ => ?_, fun k _ hlt => ?_⟩
  · by_cases c : P k
    · simp only [c, if_true]; exact h.le k c
    · simp only [c, if_false]; exact bot_le
  · by_cases c : P k
    · simp only [c, if_true]; exact h.lt k c hlt
    · simp only [c, if_false]; rw [h.val]; exact hbot i h.mem

end FirstMax

/-- What the running search carries after the first `n` indices: nothing yet, or the first greatest and its index. -/
def Best (u : ℕ → EReal) (n : ℕ) (v c : EReal) : Prop :=
  ∃ i : ℕ, c = ((i : ℝ) : EReal) ∧ (n = 0 → v = ⊥ ∧ i = 0) ∧ (0 < n → FirstMax (fun k => k < n) u v i)

/-- Before the first index. -/
theorem best_zero (u : ℕ → EReal) : Best u 0 ⊥ 0 := ⟨0, by simp, fun _ => ⟨rfl, rfl⟩, fun h => absurd h (by omega)⟩

/-- A further block of indices joins the search. -/
theorem Best.step {u : ℕ → EReal} {n m : ℕ} {v c w : EReal} {j : ℕ} (h : Best u n v c)
    (hw : FirstMax (fun k => n ≤ k ∧ k < m) u w j) :
    Best u m (if v < w then w else v) (if v < w then ((j : ℝ) : EReal) else c) := by
  obtain ⟨i, rfl, h0, h1⟩ := h
  have hnm : n < m := lt_of_le_of_lt hw.mem.1 hw.mem.2
  refine ⟨if v < w then j else i, by split <;> rfl, fun e => absurd e (by omega), fun _ => ?_⟩
  rcases Nat.eq_zero_or_pos n with hn | hn
  · obtain ⟨rfl, rfl⟩ := h0 hn
    subst hn
    by_cases c : (⊥ : EReal) < w
    · simp only [c, if_true]
      exact hw.congr fun k => by omega
    · simp only [c, if_false]
      have hb : ∀ k, k < m → u k = ⊥ := fun k hk =>
        le_bot_iff.1 ((hw.le k ⟨by omega, hk⟩).trans (not_lt.1 c))
      exact ⟨by omega, (hb 0 (by omega)).symm, fun k hk => (hb k hk).le, fun k _ hlt => by omega⟩
  · exact ((h1 hn).pair hw fun k hk => Or.inr fun l hl => by omega).congr fun k => by omega

/-- One trip of the search: four indices (the last repeated where there are fewer), compared in pairs. -/
theorem Best.trip {u : ℕ → EReal} {k : ℕ} {v c : EReal} (h : Best u (4 * k) v c) (hk : k < 14) {a0 a1 a2 a3 : ℕ}
    (h0 : a0 = min (4 * k) 53) (h1 : a1 = min (4 * k + 1) 53) (h2 : a2 = min (4 * k + 2) 53) (h3 : a3 = min (4 * k + 3) 53)
    {v01 c01 v23 c23 w cw : EReal}
    (e01 : v01 = if u a0 < u a1 then u a1 else u a0) (f01 : c01 = if u a0 < u a1 then ((a1 : ℝ) : EReal) else ((a0 : ℝ) : EReal))
    (e23 : v23 = if u a2 < u a3 then u a3 else u a2) (f23 : c23 = if u a2 < u a3 then ((a3 : ℝ) : EReal) else ((a2 : ℝ) : EReal))
    (ew : w = if v01 < v23 then v23 else v01) (fw : cw = if v01 < v23 then c23 else c01) :
    Best u (min (4 * k + 4) 54) (if v < w then w else v) (if v < w then cw else c) := by
  have ha : a0 ≤ a1 ∧ a1 ≤ a2 ∧ a2 ≤ a3 := by omega
  have hset : ∀ l, ((l = a0 ∨ l = a1) ∨ l = a2 ∨ l = a3) ↔ (4 * k ≤ l ∧ l < min (4 * k + 4) 54) := by
    intro l
    rcases Nat.lt_or_ge k 13 with g | g
    · rw [Nat.min_eq_left (by omega)] at h0 h1 h2 h3 ⊢
      omega
    · obtain rfl : k = 13 := by omega
      omega
  clear h0 h1 h2 h3
  have g01 := (FirstMax.single u a0).pair (FirstMax.single u a1) fun l hl => by
    rcases Nat.eq_or_lt_of_le ha.1 with e | e
    · left; rw [hl, ← e]
    · right; intro l' hl'; rw [hl, hl']; exact e
  have g23 := (FirstMax.single u a2).pair (FirstMax.single u a3) fun l hl => by
    rcases Nat.eq_or_lt_of_le ha.2.2 with e | e
    · left; rw [hl, ← e]
    · right; intro l' hl'; rw [hl, hl']; exact e
  rw [← e01] at g01; rw [← e23] at g23
  have g := g01.pair g23 fun l hl => by
    rcases Nat.eq_or_lt_of_le ha.2.1 with e | e
    · rcases Nat.eq_or_lt_of_le ha.2.2 with e' | e'
      · left; right; rcases hl with hl | hl <;> omega
      · rcases hl with hl | hl
        · left; right; omega
        · right; intro l' hl'; rcases hl' with hl' | hl' <;> omega
    · right; intro l' hl'; rcases hl' with hl' | hl' <;> rcases hl with hl | hl <;> omega
  rw [← ew] at g
  have hc : cw = (((if v01 < v23 then (if u a2 < u a3 then a3 else a2) else (if u a0 < u a1 then a1 else a0) : ℕ) : ℝ) : EReal) := by
    rw [fw, f01, f23]; split_ifs <;> rfl
  rw [hc]
  exact h.step (g.congr hset)

/-! ## The fourfold upsampling -/

/-- Phase `p` of the upsampling: from the source sample and its two neighbours. -/
def upP (p : ℕ) (a b c : EReal) : EReal :=
  if p = 0 then ((3 / 8 : ℝ) : EReal) * a + ((5 / 8 : ℝ) : EReal) * b
  else if p = 1 then ((1 / 8 : ℝ) : EReal) * a + ((7 / 8 : ℝ) : EReal) * b
  else if p = 2 then ((7 / 8 : ℝ) : EReal) * b + ((1 / 8 : ℝ) : EReal) * c
  else ((5 / 8 : ℝ) : EReal) * b + ((3 / 8 : ℝ) : EReal) * c

/-- Sample `n` of the fourfold upsampling of `f` on `0 … 127`, the edge samples repeated beyond the edges. -/
def up (f : ℕ → EReal) (n : ℕ) : EReal := upP (n % 4) (f (n / 4 - 1)) (f (n / 4)) (f (min (n / 4 + 1) 127))

/-- A nonnegative real multiplies into a sum. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- A sum of nonnegative reals multiplies an extended real. -/
theorem add_coe_mul {a b : ℝ} (ha : 0 ≤ a) (hb : 0 ≤ b) (x : EReal) : ((a + b : ℝ) : EReal) * x = a * x + b * x := by
  rw [EReal.coe_add]
  exact EReal.right_distrib_of_nonneg (by exact_mod_cast ha) (by exact_mod_cast hb)

/-- The weights of phase `p`. -/
def wt (p : ℕ) : ℝ × ℝ × ℝ :=
  if p = 0 then (3 / 8, 5 / 8, 0) else if p = 1 then (1 / 8, 7 / 8, 0) else if p = 2 then (0, 7 / 8, 1 / 8) else (0, 5 / 8, 3 / 8)

/-- The weights are nonnegative. -/
theorem wt_nonneg (p : ℕ) : 0 ≤ (wt p).1 ∧ 0 ≤ (wt p).2.1 ∧ 0 ≤ (wt p).2.2 := by
  unfold wt; split_ifs <;> norm_num

/-- A phase is the weighted sum of the three samples. -/
theorem upP_eq (p : ℕ) (a b c : EReal) : upP p a b c = ((wt p).1 : EReal) * a + (((wt p).2.1 : EReal) * b + ((wt p).2.2 : EReal) * c) := by
  unfold upP wt; split_ifs <;> simp

/-- Upsampling the rows then the columns is upsampling the columns then the rows. -/
theorem up_comm (X : ℕ → ℕ → EReal) (y x : ℕ) :
    up (fun r => up (fun c => X r c) x) y = up (fun c => up (fun r => X r c) y) x := by
  obtain ⟨a0, a1, a2⟩ := wt_nonneg (y % 4)
  obtain ⟨b0, b1, b2⟩ := wt_nonneg (x % 4)
  simp only [up, upP_eq, coe_mul_add a0, coe_mul_add a1, coe_mul_add a2, coe_mul_add b0, coe_mul_add b1, coe_mul_add b2]
  simp only [mul_left_comm ((wt (x % 4)).1 : EReal), mul_left_comm ((wt (x % 4)).2.1 : EReal), mul_left_comm ((wt (x % 4)).2.2 : EReal)]
  ac_rfl

/-- The weight of source sample `i` in output sample `n`. -/
def wgt (n i : ℕ) : ℝ :=
  (if i = n / 4 - 1 then (wt (n % 4)).1 else 0)
    + ((if i = n / 4 then (wt (n % 4)).2.1 else 0) + (if i = min (n / 4 + 1) 127 then (wt (n % 4)).2.2 else 0))

/-- The upsampling as a sum over all the source samples with their weights. -/
theorem up_eq_sum (f : ℕ → EReal) {n : ℕ} (hn : n < 512) : up f n = ∑ i : Fin 128, ((wgt n i : ℝ) : EReal) * f i := by
  obtain ⟨a0, a1, a2⟩ := wt_nonneg (n % 4)
  have hs : ∀ (w : ℝ) (k : ℕ), k < 128 → (w : EReal) * f k = ∑ i : Fin 128, (((if (i : ℕ) = k then w else 0 : ℝ)) : EReal) * f i := by
    intro w k hk
    rw [Finset.sum_eq_single (⟨k, hk⟩ : Fin 128)]
    · simp
    · intro b _ hb
      have : (b : ℕ) ≠ k := fun e => hb (Fin.ext e)
      simp [this]
    · simp
  unfold up
  rw [upP_eq, hs _ (n / 4 - 1) (by omega), hs _ (n / 4) (by omega), hs _ (min (n / 4 + 1) 127) (by omega),
    ← Finset.sum_add_distrib, ← Finset.sum_add_distrib]
  refine Finset.sum_congr rfl fun i _ => ?_
  unfold wgt
  rw [add_coe_mul (by split_ifs <;> first | assumption | exact le_rfl) (by
      refine add_nonneg ?_ ?_ <;> split_ifs <;> first | assumption | exact le_rfl),
    add_coe_mul (by split_ifs <;> first | assumption | exact le_rfl) (by split_ifs <;> first | assumption | exact le_rfl)]

/-! ## Rank and encoding of a detection -/

/-- How many of the 128 entries come before entry `d` in the order of decreasing score (equal scores by index). -/
def rk (s : ℕ → EReal) (d : ℕ) : ℕ := by
  classical exact (Finset.univ.filter fun e : Fin 128 => s d < s e ∨ (s e = s d ∧ (e : ℕ) < d)).card

/-- The number that encodes detection `d`: rank, then class, then index. -/
def encN (s : ℕ → EReal) (cls : ℕ → ℕ) (d : ℕ) : ℕ := rk s d * 65536 + cls d * 128 + d

/-- The encoding of the absence of a detection. -/
def void : EReal := ((6553600 : ℝ) : EReal)

/-- The detection of the greatest score in `P` has a smaller rank than every other in `P`. -/
theorem rk_lt {P : ℕ → Prop} {s : ℕ → EReal} {v : EReal} {o d : ℕ} (h : FirstMax P s v o) (ho : o < 128) (hd : P d) (hne : d ≠ o) :
    rk s o < rk s d := by
  classical
  unfold rk
  have hle : s d ≤ s o := h.val ▸ h.le d hd
  have hlt : d < o → s d < s o := fun g => h.val ▸ h.lt d hd g
  refine Finset.card_lt_card ⟨fun e he => ?_, fun hsub => ?_⟩
  · simp only [Finset.mem_filter, Finset.mem_univ, true_and] at he ⊢
    rcases he with he | ⟨he, he'⟩
    · exact Or.inl (hle.trans_lt he)
    · rcases hle.lt_or_eq with g | g
      · left; rwa [he]
      · right; refine ⟨he.trans g.symm, ?_⟩
        by_contra hc
        exact absurd g (hlt (by omega)).ne
  · have : (⟨o, ho⟩ : Fin 128) ∈ Finset.univ.filter fun e : Fin 128 => s d < s e ∨ (s e = s d ∧ (e : ℕ) < d) := by
      simp only [Finset.mem_filter, Finset.mem_univ, true_and]
      rcases hle.lt_or_eq with g | g
      · exact Or.inl g
      · right; refine ⟨g.symm, ?_⟩
        rcases lt_trichotomy d o with q | q | q
        · exact absurd g (hlt q).ne
        · exact absurd q hne
        · exact q
    have := hsub this
    simp at this

/-- Where the entries from 100 on have score below `t`, a detection of score above `t` has rank below 100. -/
theorem rk_lt_hundred {s : ℕ → EReal} {t : EReal} {d : ℕ} (hd : d < 100) (ht : t < s d) (hpad : ∀ e, 100 ≤ e → e < 128 → s e < t) :
    rk s d < 100 := by
  classical
  unfold rk
  have hsub : (Finset.univ.filter fun e : Fin 128 => s d < s e ∨ (s e = s d ∧ (e : ℕ) < d))
      ⊆ ((Finset.univ.filter fun e : Fin 128 => (e : ℕ) < 100).erase ⟨d, by omega⟩) := by
    intro e he
    simp only [Finset.mem_filter, Finset.mem_univ, true_and, Finset.mem_erase] at he ⊢
    refine ⟨fun q => ?_, ?_⟩
    · subst q; simp at he
    · by_contra hc
      have h1 := hpad e (by omega) e.isLt
      rcases he with he | ⟨he, he'⟩
      · exact absurd (ht.trans (he.trans h1)) (lt_irrefl _)
      · omega
  refine (Finset.card_le_card hsub).trans_lt ?_
  have hmem : (⟨d, by omega⟩ : Fin 128) ∈ Finset.univ.filter fun e : Fin 128 => (e : ℕ) < 100 := by simp [hd]
  rw [Finset.card_erase_of_mem hmem]
  have : (Finset.univ.filter fun e : Fin 128 => (e : ℕ) < 100).card = 100 := by decide +kernel
  rw [this]; norm_num

/-- What the running minimum over the detections carries after the trips below `k` (each trip takes the detections with
    one remainder by 25). -/
def Least (q : ℕ → EReal) (k : ℕ) (e : EReal) : Prop :=
  e ≤ void ∧ (∀ d, d < 100 → d % 25 < k → e ≤ q d) ∧ (e = void ∨ ∃ d, d < 100 ∧ e = q d)

/-- Before the first trip. -/
theorem least_zero (q : ℕ → EReal) : Least q 0 void := ⟨le_rfl, fun _ _ h => by omega, Or.inl rfl⟩

/-- One trip: the minimum with the four detections of one remainder. -/
theorem Least.trip {q : ℕ → EReal} {k : ℕ} {e : EReal} (h : Least q k e) (hk : k < 25) :
    Least q (k + 1) (min e (min (min (q k) (q (k + 25))) (min (q (k + 50)) (q (k + 75))))) := by
  obtain ⟨h0, h1, h2⟩ := h
  refine ⟨(min_le_left _ _).trans h0, fun d hd hdk => ?_, ?_⟩
  · by_cases c : d % 25 < k
    · exact (min_le_left _ _).trans (h1 d hd c)
    · have : d = k ∨ d = k + 25 ∨ d = k + 50 ∨ d = k + 75 := by omega
      rcases this with rfl | rfl | rfl | rfl <;> simp
  · rcases min_choice e (min (min (q k) (q (k + 25))) (min (q (k + 50)) (q (k + 75)))) with g | g
    · rw [g]; exact h2
    · rw [g]; right
      rcases min_choice (min (q k) (q (k + 25))) (min (q (k + 50)) (q (k + 75))) with g | g <;> rw [g]
      · rcases min_choice (q k) (q (k + 25)) with g | g <;> rw [g]
        · exact ⟨k, by omega, rfl⟩
        · exact ⟨_, by omega, rfl⟩
      · rcases min_choice (q (k + 50)) (q (k + 75)) with g | g <;> rw [g]
        · exact ⟨_, by omega, rfl⟩
        · exact ⟨_, by omega, rfl⟩

/-- The minimum is the encoding of the detection of the greatest score among those of `P`. -/
theorem Least.eq_enc {P : ℕ → Prop} {s : ℕ → EReal} {cls : ℕ → ℕ} {q : ℕ → EReal} {e t v : EReal} {o : ℕ}
    (h : Least q 25 e) (ho : FirstMax P s v o) (hP : ∀ d, P d → d < 100 ∧ t < s d)
    (hq : ∀ d, d < 100 → (P d → q d = ((encN s cls d : ℝ) : EReal)) ∧ (¬P d → q d = void))
    (hcls : ∀ d, d < 100 → cls d ≤ 511) (hpad : ∀ e, 100 ≤ e → e < 128 → s e < t) :
    e = ((encN s cls o : ℝ) : EReal) ∧ rk s o < 100 := by
  obtain ⟨ho1, hot⟩ := hP o ho.mem
  have hr := rk_lt_hundred ho1 hot hpad
  refine ⟨?_, hr⟩
  obtain ⟨-, h1, h2⟩ := h
  have hle : e ≤ ((encN s cls o : ℝ) : EReal) := (hq o ho1).1 ho.mem ▸ h1 o ho1 (by omega)
  have hc := hcls o ho1
  have hv : ((encN s cls o : ℝ) : EReal) < void := by
    unfold void encN
    rw [EReal.coe_lt_coe_iff]
    have : rk s o * 65536 + cls o * 128 + o < 6553600 := by omega
    exact_mod_cast this
  rcases h2 with g | ⟨d, hd, g⟩
  · rw [g] at hle; exact absurd hv (not_lt.2 hle)
  · by_cases c : P d
    · rw [(hq d hd).1 c] at g
      by_cases hdo : d = o
      · rw [g, hdo]
      · have hlt := rk_lt ho (by omega) c hdo
        have : encN s cls o < encN s cls d := by unfold encN; omega
        rw [g, EReal.coe_le_coe_iff] at hle
        have : encN s cls d ≤ encN s cls o := by exact_mod_cast hle
        omega
    · rw [(hq d hd).2 c] at g
      rw [g] at hle; exact absurd hv (not_lt.2 hle)

/-- With no detection in `P` the minimum is the void encoding. -/
theorem Least.eq_void {P : ℕ → Prop} {q : ℕ → EReal} {e : EReal} (h : Least q 25 e) (hP : ∀ d, ¬P d)
    (hq : ∀ d, d < 100 → ¬P d → q d = void) : e = void := by
  obtain ⟨-, -, h2⟩ := h
  rcases h2 with g | ⟨d, hd, g⟩
  · exact g
  · rw [g, hq d hd (hP d)]

/-- The rank is the sum of the comparisons. -/
theorem rk_eq_sum (s : ℕ → EReal) (d : ℕ) (p : Fin 128 → Prop) [DecidablePred p] (hp : ∀ e : Fin 128, p e ↔ (s d < s e ∨ (s e = s d ∧ (e : ℕ) < d))) :
    (∑ e : Fin 128, if p e then (1 : EReal) else 0) = (((rk s d : ℕ) : ℝ) : EReal) := by
  classical
  rw [Finset.sum_boole]
  have : (Finset.univ.filter p).card = rk s d := by
    unfold rk
    congr 1
    ext e
    simp [hp e]
  rw [this]
  simp

end Cert.Panoptic

end
-- ==== Proof.Upsample.lean ====
/- The kernel's upsampling of one channel, read at an index: each of the four row phases is the fourfold upsampling of
   the channel's 128 x 128 samples along both axes, the columns stored phase by phase. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Panoptic.K

open Idealize.ShloMosaic Idealize.ShloMosaic.TcCoe Cert.KernelIdeal Cert.KernelIdeal.Gen Cert.Panoptic

/-- The channel block's sample at row `r`, column `c`, by natural numbers. -/
def at2 (v : FVec Ideal S1x1x128x128 .f32) (r c : ℕ) : EReal :=
  if h : r < 128 ∧ c < 128 then v (ix4 0 0 ⟨r, h.1⟩ ⟨c, h.2⟩) else 0

/-- Inside the block it is the block's sample. -/
theorem at2_eq (v : FVec Ideal S1x1x128x128 .f32) (r c : Fin 128) : v (ix4 0 0 r c) = at2 v r c := by
  unfold at2; rw [dif_pos ⟨r.isLt, c.isLt⟩]

/-- The columns' weights, as extended reals. -/
theorem c38 : Ideal.ofBits .f32 0x3EC00000#32 = ((3 / 8 : ℝ) : EReal) := by
  simp [Ideal.ofBits, Ideal.ieee, -EReal.coe_mul]; norm_num
/-- The value of this constant. -/
theorem c58 : Ideal.ofBits .f32 0x3F200000#32 = ((5 / 8 : ℝ) : EReal) := by
  simp [Ideal.ofBits, Ideal.ieee, -EReal.coe_mul]; norm_num
/-- The value of this constant. -/
theorem c18 : Ideal.ofBits .f32 0x3E000000#32 = ((1 / 8 : ℝ) : EReal) := by
  simp [Ideal.ofBits, Ideal.ieee, -EReal.coe_mul]; norm_num
/-- The value of this constant. -/
theorem c78 : Ideal.ofBits .f32 0x3F600000#32 = ((7 / 8 : ℝ) : EReal) := by
  simp [Ideal.ofBits, Ideal.ieee, -EReal.coe_mul]; norm_num

/-- The channel's image at a pixel. -/
theorem pay3_apply (v : FVec Ideal S1x1x128x128 .f32) (r c : Fin 128) : k0_pay3 (F := Ideal) v (ix2 r c) = at2 v r c := by
  pointwise [k0_pay3]
  exact at2_eq v r c

/-- The sample to the left, the first column repeated. -/
theorem pay4_apply (v : FVec Ideal S1x1x128x128 .f32) (r c : Fin 128) : k0_pay4 (F := Ideal) v (ix2 r c) = at2 v r (c - 1) := by
  pointwise [k0_pay4, k0_pay3]
  simp only [at2_eq]
  split_ifs with h
  · congr 1; omega
  · rfl

/-- The sample to the right, the last column repeated. -/
theorem pay5_apply (v : FVec Ideal S1x1x128x128 .f32) (r c : Fin 128) :
    k0_pay5 (F := Ideal) v (ix2 r c) = at2 v r (min (c + 1) 127) := by
  pointwise [k0_pay5, k0_pay3]
  simp only [at2_eq]
  have := c.isLt
  split_ifs with h
  · congr 1; omega
  · congr 1; omega

/-- The image's first column phase. -/
theorem pay6_apply (v : FVec Ideal S1x1x128x128 .f32) (r c : Fin 128) :
    k0_pay6 (F := Ideal) v (ix2 r c) = ((3 / 8 : ℝ) : EReal) * at2 v r (c - 1) + ((5 / 8 : ℝ) : EReal) * at2 v r c := by
  rw [← pay3_apply, ← pay4_apply, ← c38, ← c58]; rfl
/-- The image's second column phase. -/
theorem pay7_apply (v : FVec Ideal S1x1x128x128 .f32) (r c : Fin 128) :
    k0_pay7 (F := Ideal) v (ix2 r c) = ((1 / 8 : ℝ) : EReal) * at2 v r (c - 1) + ((7 / 8 : ℝ) : EReal) * at2 v r c := by
  rw [← pay3_apply, ← pay4_apply, ← c18, ← c78]; rfl
/-- The image's third column phase. -/
theorem pay8_apply (v : FVec Ideal S1x1x128x128 .f32) (r c : Fin 128) :
    k0_pay8 (F := Ideal) v (ix2 r c) = ((7 / 8 : ℝ) : EReal) * at2 v r c + ((1 / 8 : ℝ) : EReal) * at2 v r (min (c + 1) 127) := by
  rw [← pay3_apply, ← pay5_apply, ← c18, ← c78]; rfl

/-- Row `r` of the block upsampled along the columns, at stored column `l`: phase `l / 128` of source column `l % 128`. -/
def colU (v : FVec Ideal S1x1x128x128 .f32) (l r : ℕ) : EReal := up (fun c => at2 v r c) (4 * (l % 128) + l / 128)

/-- The columns' upsampling as the kernel computes it from one channel's block. -/
def colK (v : FVec Ideal S1x1x128x128 .f32) : FVec Ideal S128x512 .f32 :=
  k0_pay10 (k0_pay3 v) (k0_pay5 v) (k0_pay6 v) (k0_pay7 v) (k0_pay8 v) k0_pay9

/-- A stored column's phase and source column. -/
theorem col_split {l j q : ℕ} (h : l = 128 * q + j) (h1 : j < 128) (h2 : q < 4) :
    (4 * (l % 128) + l / 128) % 4 = q ∧ (4 * (l % 128) + l / 128) / 4 = j := by
  have a : l / 128 = q := by omega
  have b : l % 128 = j := by omega
  rw [a, b]; constructor <;> omega

/-- The four column phases stored side by side. -/
theorem pay10_apply (a b c d e f : FVec Ideal S128x128 .f32) (r : Fin 128) (l : Fin 512) :
    k0_pay10 a b c d e f (ix2 r l) =
      (if h : (l : ℕ) < 128 then c (ix2 r ⟨l, h⟩)
      else if h : (l : ℕ) - 128 < 128 then d (ix2 r ⟨l - 128, h⟩)
      else if h : (l : ℕ) - 128 - 128 < 128 then e (ix2 r ⟨l - 128 - 128, h⟩)
      else f (ix2 r ⟨l - 128 - 128 - 128, by omega⟩) * a (ix2 r ⟨l - 128 - 128 - 128, by omega⟩)
        + Ideal.ofBits .f32 0x3EC00000#32 * b (ix2 r ⟨l - 128 - 128 - 128, by omega⟩)) := by
  pointwise [k0_pay10]

/-- It is the fourfold upsampling of every row. -/
theorem colK_apply (v : FVec Ideal S1x1x128x128 .f32) (r : Fin 128) (l : Fin 512) : colK v (ix2 r l) = colU v l r := by
  have hl := l.isLt
  unfold colK colU up
  rw [pay10_apply]
  by_cases h0 : (l : ℕ) < 128
  · obtain ⟨e1, e2⟩ := col_split (l := l) (j := l) (q := 0) (by omega) h0 (by omega)
    rw [dif_pos h0, pay6_apply, e1, e2]; simp [upP]
  by_cases h1 : (l : ℕ) - 128 < 128
  · obtain ⟨e1, e2⟩ := col_split (l := l) (j := l - 128) (q := 1) (by omega) h1 (by omega)
    rw [dif_neg h0, dif_pos h1, pay7_apply, e1, e2]; simp [upP]
  by_cases h2 : (l : ℕ) - 128 - 128 < 128
  · obtain ⟨e1, e2⟩ := col_split (l := l) (j := l - 128 - 128) (q := 2) (by omega) h2 (by omega)
    rw [dif_neg h0, dif_neg h1, dif_pos h2, pay8_apply, e1, e2]; simp [upP]
  · obtain ⟨e1, e2⟩ := col_split (l := l) (j := l - 128 - 128 - 128) (q := 3) (by omega) (by omega) (by omega)
    rw [dif_neg h0, dif_neg h1, dif_neg h2, pay3_apply, pay5_apply, e1, e2]
    have h9 : ∀ i, k0_pay9 (F := Ideal) i = Ideal.ofBits .f32 0x3F200000#32 := fun _ => rfl
    rw [h9, c58, c38]; simp [upP]

section Rows

variable (a b c d e f : FVec Ideal S128x128 .f32)

/-- The row above, the first repeated. -/
theorem pay11_apply (r : Fin 128) (l : Fin 512) :
    k0_pay11 a b c d e f (ix2 r l) = k0_pay10 a b c d e f (ix2 ⟨r - 1, by omega⟩ l) := by
  unfold k0_pay11
  generalize k0_pay10 a b c d e f = w
  have h : ∀ h : (r : ℕ) < 1, (⟨r, by omega⟩ : Fin 128) = ⟨r - 1, by omega⟩ := by intro h; ext; simp; omega
  pointwise []
  by_cases h0 : (r : ℕ) < 1
  · rw [dif_pos h0]; congr 2; exact h h0
  · rw [dif_neg h0]

/-- The row below, the last repeated. -/
theorem pay12_apply (r : Fin 128) (l : Fin 512) :
    k0_pay12 a b c d e f (ix2 r l) = k0_pay10 a b c d e f (ix2 ⟨min (r + 1) 127, by omega⟩ l) := by
  unfold k0_pay12
  generalize k0_pay10 a b c d e f = w
  have := r.isLt
  pointwise []
  by_cases h0 : (r : ℕ) < 127
  · rw [dif_pos h0]; congr 2; apply Fin.ext; show 1 + (r : ℕ) = min ((r : ℕ) + 1) 127; omega
  · rw [dif_neg h0]; congr 2; apply Fin.ext; show 127 + ((r : ℕ) - 127) = min ((r : ℕ) + 1) 127; omega

end Rows

/-- Row phase 0 of one channel. -/
def ph0 (v : FVec Ideal S1x1x128x128 .f32) : FVec Ideal S128x512 .f32 :=
  k0_pay13 (k0_pay3 v) (k0_pay5 v) (k0_pay6 v) (k0_pay7 v) (k0_pay8 v) k0_pay9
/-- Row phase 1 of one channel. -/
def ph1 (v : FVec Ideal S1x1x128x128 .f32) : FVec Ideal S128x512 .f32 :=
  k0_pay14 (k0_pay3 v) (k0_pay5 v) (k0_pay6 v) (k0_pay7 v) (k0_pay8 v) k0_pay9
/-- Row phase 2 of one channel. -/
def ph2 (v : FVec Ideal S1x1x128x128 .f32) : FVec Ideal S128x512 .f32 :=
  k0_pay15 (k0_pay3 v) (k0_pay5 v) (k0_pay6 v) (k0_pay7 v) (k0_pay8 v) k0_pay9
/-- Row phase 3 of one channel. -/
def ph3 (v : FVec Ideal S1x1x128x128 .f32) : FVec Ideal S128x512 .f32 :=
  k0_pay16 (k0_pay3 v) (k0_pay5 v) (k0_pay6 v) (k0_pay7 v) (k0_pay8 v) k0_pay9

/-- One channel's upsampled sample at row `4 r + p` and stored column `l`. -/
def rowU (v : FVec Ideal S1x1x128x128 .f32) (p r l : ℕ) : EReal := up (fun y => colU v l y) (4 * r + p)

/-- A row's phase and source row. -/
theorem row_split (r : ℕ) {p : ℕ} (hp : p < 4) : (4 * r + p) % 4 = p ∧ (4 * r + p) / 4 = r := by
  constructor <;> omega

/-- Row phase 0 of a channel. -/
theorem ph0_apply (v : FVec Ideal S1x1x128x128 .f32) (r : Fin 128) (l : Fin 512) : ph0 v (ix2 r l) = rowU v 0 r l := by
  have h : ph0 v (ix2 r l) = Ideal.ofBits .f32 0x3EC00000#32 * k0_pay11 (k0_pay3 v) (k0_pay5 v) (k0_pay6 v) (k0_pay7 v) (k0_pay8 v) k0_pay9 (ix2 r l)
      + Ideal.ofBits .f32 0x3F200000#32 * colK v (ix2 r l) := rfl
  rw [h, c38, c58, pay11_apply]; change _ * colK v _ + _ = _
  rw [colK_apply, colK_apply]
  obtain ⟨e1, e2⟩ := row_split r (p := 0) (by omega)
  rw [rowU, up, e1, e2]; simp [upP]

/-- Row phase 1 of a channel. -/
theorem ph1_apply (v : FVec Ideal S1x1x128x128 .f32) (r : Fin 128) (l : Fin 512) : ph1 v (ix2 r l) = rowU v 1 r l := by
  have h : ph1 v (ix2 r l) = Ideal.ofBits .f32 0x3E000000#32 * k0_pay11 (k0_pay3 v) (k0_pay5 v) (k0_pay6 v) (k0_pay7 v) (k0_pay8 v) k0_pay9 (ix2 r l)
      + Ideal.ofBits .f32 0x3F600000#32 * colK v (ix2 r l) := rfl
  rw [h, c18, c78, pay11_apply]; change _ * colK v _ + _ = _
  rw [colK_apply, colK_apply]
  obtain ⟨e1, e2⟩ := row_split r (p := 1) (by omega)
  rw [rowU, up, e1, e2]; simp [upP]

/-- Row phase 2 of a channel. -/
theorem ph2_apply (v : FVec Ideal S1x1x128x128 .f32) (r : Fin 128) (l : Fin 512) : ph2 v (ix2 r l) = rowU v 2 r l := by
  have h : ph2 v (ix2 r l) = Ideal.ofBits .f32 0x3F600000#32 * colK v (ix2 r l)
      + Ideal.ofBits .f32 0x3E000000#32 * k0_pay12 (k0_pay3 v) (k0_pay5 v) (k0_pay6 v) (k0_pay7 v) (k0_pay8 v) k0_pay9 (ix2 r l) := rfl
  rw [h, c18, c78, pay12_apply]; change _ + _ * colK v _ = _
  rw [colK_apply, colK_apply]
  obtain ⟨e1, e2⟩ := row_split r (p := 2) (by omega)
  rw [rowU, up, e1, e2]; simp [upP]

/-- Row phase 3 of a channel. -/
theorem ph3_apply (v : FVec Ideal S1x1x128x128 .f32) (r : Fin 128) (l : Fin 512) : ph3 v (ix2 r l) = rowU v 3 r l := by
  have h : ph3 v (ix2 r l) = Ideal.ofBits .f32 0x3F200000#32 * colK v (ix2 r l)
      + Ideal.ofBits .f32 0x3EC00000#32 * k0_pay12 (k0_pay3 v) (k0_pay5 v) (k0_pay6 v) (k0_pay7 v) (k0_pay8 v) k0_pay9 (ix2 r l) := rfl
  rw [h, c38, c58, pay12_apply]; change _ + _ * colK v _ = _
  rw [colK_apply, colK_apply]
  obtain ⟨e1, e2⟩ := row_split r (p := 3) (by omega)
  rw [rowU, up, e1, e2]; simp [upP]

/-! The other three channels of a trip go through the same operations. -/

section Channels

variable (v : FVec Ideal S1x1x128x128 .f32)

/-- Row phase 0 of the trip's channel 1 is the same function. -/
theorem ph0_1 : k0_pay24 (k0_pay17 v) (k0_pay18 v) (k0_pay19 v) (k0_pay20 v) (FloatOps.ofBits (F := Ideal) .f32 1040187392#32) = ph0 v := rfl
/-- Row phase 1 of the trip's channel 1 is the same function. -/
theorem ph1_1 : k0_pay25 (k0_pay17 v) (k0_pay18 v) (k0_pay19 v) (k0_pay20 v) (FloatOps.ofBits (F := Ideal) .f32 1040187392#32) = ph1 v := rfl
/-- Row phase 2 of the trip's channel 1 is the same function. -/
theorem ph2_1 : k0_pay26 (k0_pay17 v) (k0_pay18 v) (k0_pay19 v) (k0_pay20 v) (FloatOps.ofBits (F := Ideal) .f32 1040187392#32) = ph2 v := rfl
/-- Row phase 3 of the trip's channel 1 is the same function. -/
theorem ph3_1 : k0_pay27 (k0_pay17 v) (k0_pay18 v) (k0_pay19 v) (k0_pay20 v) (FloatOps.ofBits (F := Ideal) .f32 1040187392#32) = ph3 v := rfl
/-- Row phase 0 of the trip's channel 2 is the same function. -/
theorem ph0_2 : k0_pay31 v = ph0 v := rfl
/-- Row phase 1 of the trip's channel 2 is the same function. -/
theorem ph1_2 : k0_pay32 v = ph1 v := rfl
/-- Row phase 2 of the trip's channel 2 is the same function. -/
theorem ph2_2 : k0_pay34 (k0_pay30 v) (k0_pay33 v) (FloatOps.ofBits (F := Ideal) .f32 1040187392#32) = ph2 v := rfl
/-- Row phase 3 of the trip's channel 2 is the same function. -/
theorem ph3_2 : k0_pay35 (k0_pay28 v) (k0_pay30 v) = ph3 v := rfl
/-- Row phase 0 of the trip's channel 3 is the same function. -/
theorem ph0_3 : k0_pay40 (k0_pay36 v) (k0_pay39 v) = ph0 v := rfl
/-- Row phase 1 of the trip's channel 3 is the same function. -/
theorem ph1_3 : k0_pay41 (k0_pay36 v) (k0_pay37 v) = ph1 v := rfl
/-- Row phase 2 of the trip's channel 3 is the same function. -/
theorem ph2_3 : k0_pay42 (k0_pay36 v) (k0_pay38 v) = ph2 v := rfl
/-- Row phase 3 of the trip's channel 3 is the same function. -/
theorem ph3_3 : k0_pay43 (k0_pay36 v) (k0_pay38 v) = ph3 v := rfl

end Channels

end Cert.Panoptic.K

end
-- ==== Proof.Loop1.lean ====
/- The kernel's first loop: fourteen trips of four channels each leave, at every pixel of every row phase, the greatest
   upsampled value and the first channel reaching it. -/
module

public import proofs.«01_k».proof.Proof.Gen.KernelIdeal.Frame.RunA
public import proofs.«01_k».proof.Proof.Upsample
public import Idealize.ShloMosaic.Lib.Pipeline.ValueKit.Tiles

@[expose] public section

set_option maxRecDepth 16384

noncomputable section

namespace Cert.Panoptic.K

open Idealize.ShloMosaic Idealize.ShloMosaic.TcCoe Idealize.ShloMosaic.Tactic Cert.KernelIdeal Cert.KernelIdeal.Gen Cert.Panoptic

/-- Channel `n` of the block, the last one repeated. -/
def chanB (X : FVec Ideal S1x54x128x128 .f32) (n : ℕ) : FVec Ideal S1x1x128x128 .f32 :=
  fun i => X (ix4 0 ⟨min n 53, by omega⟩ (i 2) (i 3))

/-- The greatest value so far, from the state's and four channels'. -/
def bst (b a0 a1 a2 a3 : FVec Ideal S128x512 .f32) : FVec Ideal S128x512 .f32 := k0_pay117 b a2 a3 (k0_pay56 a0 a1)
/-- The index so far, from the state's and four channels' values and numbers. -/
def ind (b x a0 a1 a2 a3 : FVec Ideal S128x512 .f32) (c0 c1 c2 c3 : BitVec 32) : FVec Ideal S128x512 .f32 :=
  k0_pay121 b x a2 a3 (k0_pay44 c2) (k0_pay48 c3) (k0_pay56 a0 a1) (k0_pay60 c0 c1 a0 a1)

/-- The carried value: four phases' greatest values, then their indices. -/
abbrev St : Type := FVec Ideal S128x512 .f32 × FVec Ideal S128x512 .f32 × FVec Ideal S128x512 .f32 × FVec Ideal S128x512 .f32
  × FVec Ideal S128x512 .f32 × FVec Ideal S128x512 .f32 × FVec Ideal S128x512 .f32 × FVec Ideal S128x512 .f32

/-- One trip's carried value from the one before, four channels' blocks and their numbers. -/
def stepW (r0 r1 r2 r3 : FVec Ideal S1x1x128x128 .f32) (c0 c1 c2 c3 : BitVec 32) (s : St) : St :=
  (bst s.1 (ph0 r0) (ph0 r1) (ph0 r2) (ph0 r3),
   bst s.2.1 (ph1 r0) (ph1 r1) (ph1 r2) (ph1 r3),
   bst s.2.2.1 (ph2 r0) (ph2 r1) (ph2 r2) (ph2 r3),
   bst s.2.2.2.1 (ph3 r0) (ph3 r1) (ph3 r2) (ph3 r3),
   ind s.1 s.2.2.2.2.1 (ph0 r0) (ph0 r1) (ph0 r2) (ph0 r3) c0 c1 c2 c3,
   ind s.2.1 s.2.2.2.2.2.1 (ph1 r0) (ph1 r1) (ph1 r2) (ph1 r3) c0 c1 c2 c3,
   ind s.2.2.1 s.2.2.2.2.2.2.1 (ph2 r0) (ph2 r1) (ph2 r2) (ph2 r3) c0 c1 c2 c3,
   ind s.2.2.2.1 s.2.2.2.2.2.2.2 (ph3 r0) (ph3 r1) (ph3 r2) (ph3 r3) c0 c1 c2 c3)

/-- One trip's carried value from the one before. -/
def step (X : FVec Ideal S1x54x128x128 .f32) (n : ℕ) (s : St) : St :=
  stepW (chanB X (4 * n)) (chanB X (4 * n + 1)) (chanB X (4 * n + 2)) (chanB X (4 * n + 3))
    (BitVec.ofNat 32 (min (4 * n) 53)) (BitVec.ofNat 32 (min (4 * n + 1) 53)) (BitVec.ofNat 32 (min (4 * n + 2) 53))
    (BitVec.ofNat 32 (min (4 * n + 3) 53)) s

/-- The channel's number as the trip computes it. -/
def chW (k : Fin k0_t1_loop.trips) (j : BitVec 32) : BitVec 32 :=
  Scalar.minsi (Scalar.addi (Scalar.muli 4#32 (Scf.iv 0#32 1#32 ↑k)) j) 53#32

/-- The channel read at a trip, as a word. -/
theorem chW_eq : ∀ (k : Fin k0_t1_loop.trips) (j : Fin 4),
    chW k (BitVec.ofNat 32 j) = BitVec.ofNat 32 (min (4 * (k : ℕ) + (j : ℕ)) 53) := by decide +kernel

/-- The channel read at a trip, as a number. -/
theorem chW_nat : ∀ (k : Fin k0_t1_loop.trips) (j : Fin 4),
    BitVec.toNat (Scalar.indexCast (chW k (BitVec.ofNat 32 j))) = min (4 * (k : ℕ) + (j : ℕ)) 53 := by decide +kernel

section Trip

variable (𝒱 : Variants) (c : Dev nD) (bd : Option 𝒱.V) (i : grid0.Coords) (arg1 : Memref sig .tc .vmem S1x128x1 .f32) (harg1 : arg1.IsWhole) (arg2 : Memref sig .tc .vmem S1x1x128 .f32) (harg2 : arg2.IsWhole) (arg3 : Memref sig .tc .vmem S1x128x1 .f32) (harg3 : arg3.IsWhole) (arg4 : Memref sig .tc .vmem S1x128x28x28 .f32) (harg4 : arg4.IsWhole) (arg5 : Memref sig .tc .vmem S1x54x128x128 .f32) (harg5 : arg5.IsWhole) (arg6 : Memref sig .tc .vmem S512x512 .f32) (harg6 : arg6.IsWhole) (arg7 : Memref sig .tc .smem S2x128 .f32) (harg7 : arg7.IsWhole) (arg8 : Memref sig .tc .smem S2x128x4 .i32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S128x1 .f32) (harg11 : arg11.IsWhole)

/-- The channel read lies inside the block. -/
theorem chan_inb (k : Fin k0_t1_loop.trips) (j : Fin 4) :
    ∀ a, (![0, BitVec.toNat (Scalar.indexCast (chW k (BitVec.ofNat 32 j))), 0, 0] : Fin 4 → ℕ) a + S1x1x128x128.size a ≤ S1x54x128x128.size a := by
  intro a
  rw [chW_nat]
  fin_cases a
  · change 0 + 1 ≤ 1; omega
  · change min (4 * (k : ℕ) + j) 53 + 1 ≤ 54; omega
  · change 0 + 128 ≤ 128; omega
  · change 0 + 128 ≤ 128; omega

/-- The block of one channel a trip loads. -/
def ldC (X : FVec Ideal S1x54x128x128 .f32) (k : Fin k0_t1_loop.trips) (j : Fin 4) : FVec Ideal S1x1x128x128 .f32 :=
  View.readAt (Elt Ideal) arg5.view
    (Rect.unit (s := S1x54x128x128) ![0, BitVec.toNat (Scalar.indexCast (chW k (BitVec.ofNat 32 j))), 0, 0] S1x1x128x128.size (chan_inb k j)).toLoadRect
    (harg5.unread X)

/-- It is the channel's block. -/
theorem ldC_eq (X : FVec Ideal S1x54x128x128 .f32) (k : Fin k0_t1_loop.trips) (j : Fin 4) :
    ldC arg5 harg5 X k j = chanB X (4 * k + j) := by
  unfold ldC
  rw [View.readAt_eq_ld, harg5.read_unread]
  funext x
  unfold chanB
  refine View.ld_unit_apply_of (S := S1x54x128x128) _ _ _ _ _ _ fun a => ?_
  have e := chW_nat k j
  have h0 : (x 0 : ℕ) = 0 := by have := (x 0).isLt; change _ < 1 at this; omega
  have h1 : (x 1 : ℕ) = 0 := by have := (x 1).isLt; change _ < 1 at this; omega
  fin_cases a
  · change 0 = 0 + (x 0 : ℕ); omega
  · change min (4 * (k : ℕ) + (j : ℕ)) 53 = BitVec.toNat (Scalar.indexCast (chW k (BitVec.ofNat 32 j))) + (x 1 : ℕ)
    omega
  · change (x 2 : ℕ) = 0 + (x 2 : ℕ); omega
  · change (x 3 : ℕ) = 0 + (x 3 : ℕ); omega

/-- One trip is the step. -/
theorem trip1_eq (X : FVec Ideal S1x54x128x128 .f32) (arg0 : BitVec 32) (v36 v37 v38 : FVec Ideal S128x512 .f32)
    (k : Fin k0_t1_loop.trips) (acc : St) :
    tripR_k0_t1 (F := Ideal) 𝒱 c bd i arg1 harg1 arg2 harg2 arg3 harg3 arg4 harg4 arg5 harg5 arg6 harg6 arg7 harg7 arg8 harg8 arg9 harg9 arg10 harg10 arg11 harg11 arg0 v36 v37 v38 (harg5.unread X) k acc = step X k acc := by
  have h : tripR_k0_t1 (F := Ideal) 𝒱 c bd i arg1 harg1 arg2 harg2 arg3 harg3 arg4 harg4 arg5 harg5 arg6 harg6 arg7 harg7 arg8 harg8 arg9 harg9 arg10 harg10 arg11 harg11 arg0 v36 v37 v38 (harg5.unread X) k acc
      = stepW (ldC arg5 harg5 X k 0) (ldC arg5 harg5 X k 1) (ldC arg5 harg5 X k 2) (ldC arg5 harg5 X k 3)
          (chW k (BitVec.ofNat 32 (0 : Fin 4))) (chW k (BitVec.ofNat 32 (1 : Fin 4))) (chW k (BitVec.ofNat 32 (2 : Fin 4))) (chW k (BitVec.ofNat 32 (3 : Fin 4))) acc := by
    unfold tripR_k0_t1 trip_k0_t1
    dsimp only
    sl_unfold_words
    rfl
  rw [h, ldC_eq, ldC_eq, ldC_eq, ldC_eq, chW_eq, chW_eq, chW_eq, chW_eq]
  rfl

/-- The loop's carried value after `n` trips. -/
theorem st1_iter (X : FVec Ideal S1x54x128x128 .f32) (arg0 : BitVec 32) (v36 v37 v38 : FVec Ideal S128x512 .f32) (s0 : St)
    (P : ℕ → St → Prop) (h0 : P 0 s0) (hs : ∀ n s, n < 14 → P n s → P (n + 1) (step X n s)) :
    ∀ n, n ≤ 14 → P n (st_k0_t1 (F := Ideal) 𝒱 c bd i arg1 harg1 arg2 harg2 arg3 harg3 arg4 harg4 arg5 harg5 arg6 harg6 arg7 harg7 arg8 harg8 arg9 harg9 arg10 harg10 arg11 harg11 arg0 v36 v37 v38 (harg5.unread X) s0 n) := by
  intro n
  induction n with
  | zero => intro _; exact h0
  | succ n ih =>
    intro hn
    have ht : k0_t1_loop.trips = 14 := by decide
    have e := st_k0_t1_succ (F := Ideal) 𝒱 c bd i arg1 harg1 arg2 harg2 arg3 harg3 arg4 harg4 arg5 harg5 arg6 harg6 arg7 harg7 arg8 harg8 arg9 harg9 arg10 harg10 arg11 harg11 arg0 v36 v37 v38 (harg5.unread X) s0 ⟨n, by omega⟩
    rw [trip1_eq] at e
    rw [e]
    exact hs n _ (by omega) (ih (by omega))

end Trip

/-- A choice by a comparison of two arrays, at an index. -/
theorem sel_gt {S : Shape} (x y a b : FVec Ideal S .f32) (i : S.Idx) :
    select (cmpf .ogt x y) a b i = if y i < x i then a i else b i := by
  change (if BitVec.ofBool (decide (y i < x i)) = 1#1 then a i else b i) = _
  by_cases h : y i < x i <;> simp [h]

/-- An integer constant converted to a float. -/
theorem sitofp_nat {n : ℕ} (h : n < 2 ^ 31) : Scalar.sitofp (F := Ideal) .f32 (BitVec.ofNat 32 n) = ((n : ℝ) : EReal) := by
  change (((BitVec.ofNat 32 n).toInt : ℝ) : EReal) = _
  have : (BitVec.ofNat 32 n).toInt = (n : ℤ) := by
    have e : (BitVec.ofNat 32 n).toNat = n := by rw [BitVec.toNat_ofNat]; exact Nat.mod_eq_of_lt (by omega)
    rw [BitVec.toInt_eq_toNat_of_lt (by omega), e]
  rw [this]; norm_num

/-- One trip keeps the running first-greatest state, at one phase's pixel. -/
theorem best_step {X : FVec Ideal S1x54x128x128 .f32} {n : ℕ} (hn : n < 14) (b x : FVec Ideal S128x512 .f32)
    (ph : FVec Ideal S1x1x128x128 .f32 → FVec Ideal S128x512 .f32) (u : ℕ → EReal) (i : S128x512.Idx)
    (hu : ∀ c, c < 54 → ph (chanB X c) i = u c)
    (h : Best u (min (4 * n) 54) (b i) (x i)) :
    Best u (min (4 * (n + 1)) 54)
      (bst b (ph (chanB X (4 * n))) (ph (chanB X (4 * n + 1))) (ph (chanB X (4 * n + 2))) (ph (chanB X (4 * n + 3))) i)
      (ind b x (ph (chanB X (4 * n))) (ph (chanB X (4 * n + 1))) (ph (chanB X (4 * n + 2))) (ph (chanB X (4 * n + 3)))
        (BitVec.ofNat 32 (min (4 * n) 53)) (BitVec.ofNat 32 (min (4 * n + 1) 53)) (BitVec.ofNat 32 (min (4 * n + 2) 53))
        (BitVec.ofNat 32 (min (4 * n + 3) 53)) i) := by
  have hc : ∀ c, chanB X c = chanB X (min c 53) := by
    intro c; unfold chanB; simp
  have hv : ∀ c, ph (chanB X c) i = u (min c 53) := fun c => by rw [hc c]; exact hu _ (by omega)
  rw [Nat.min_eq_left (by omega)] at h
  have t := h.trip hn rfl rfl rfl rfl rfl rfl rfl rfl rfl rfl
  have e1 : 4 * (n + 1) = 4 * n + 4 := by omega
  rw [e1]
  unfold bst ind
  simp only [k0_pay117, k0_pay113, k0_pay109, k0_pay105, k0_pay101, k0_pay97, k0_pay56, k0_pay52, k0_pay121, k0_pay60,
    k0_pay44, k0_pay48, sel_gt, hv]
  simp only [broadcast]
  rw [sitofp_nat (by omega), sitofp_nat (by omega), sitofp_nat (by omega), sitofp_nat (by omega)]
  exact t

/-- The first loop's carried value after `n` trips: at every pixel the running first-greatest state of the channels' upsampled
samples. -/
def Inv1 (X : FVec Ideal S1x54x128x128 .f32) (n : ℕ) (s : St) : Prop :=
  ∀ (r : Fin 128) (l : Fin 512),
    Best (fun c => rowU (chanB X c) 0 r l) (min (4 * n) 54) (s.1 (ix2 r l)) (s.2.2.2.2.1 (ix2 r l))
    ∧ Best (fun c => rowU (chanB X c) 1 r l) (min (4 * n) 54) (s.2.1 (ix2 r l)) (s.2.2.2.2.2.1 (ix2 r l))
    ∧ Best (fun c => rowU (chanB X c) 2 r l) (min (4 * n) 54) (s.2.2.1 (ix2 r l)) (s.2.2.2.2.2.2.1 (ix2 r l))
    ∧ Best (fun c => rowU (chanB X c) 3 r l) (min (4 * n) 54) (s.2.2.2.1 (ix2 r l)) (s.2.2.2.2.2.2.2 (ix2 r l))

/-- One trip keeps it. -/
theorem inv1_step (X : FVec Ideal S1x54x128x128 .f32) (n : ℕ) (s : St) (hn : n < 14) (h : Inv1 X n s) :
    Inv1 X (n + 1) (step X n s) := by
  intro r l
  obtain ⟨h0, h1, h2, h3⟩ := h r l
  obtain ⟨b0, b1, b2, b3, x0, x1, x2, x3⟩ := s
  dsimp only [step, stepW] at h0 h1 h2 h3 ⊢
  refine ⟨?_, ?_, ?_, ?_⟩
  · exact best_step hn b0 x0 ph0 _ (ix2 r l) (fun c _ => ph0_apply (chanB X c) r l) h0
  · exact best_step hn b1 x1 ph1 _ (ix2 r l) (fun c _ => ph1_apply (chanB X c) r l) h1
  · exact best_step hn b2 x2 ph2 _ (ix2 r l) (fun c _ => ph2_apply (chanB X c) r l) h2
  · exact best_step hn b3 x3 ph3 _ (ix2 r l) (fun c _ => ph3_apply (chanB X c) r l) h3

/-- Minus infinity and zero. -/
theorem c_bot : Ideal.ofBits .f32 0xFF800000#32 = ⊥ := by simp [Ideal.ofBits, Ideal.ieee]
/-- The value of this constant. -/
theorem c_zero : Ideal.ofBits .f32 0x00000000#32 = 0 := by simp [Ideal.ofBits, Ideal.ieee]

/-- The loop starts from minus infinity and channel zero. -/
theorem inv1_zero (X : FVec Ideal S1x54x128x128 .f32) :
    Inv1 X 0 (k0_pay89, k0_pay90, k0_pay91, k0_pay92, k0_pay93, k0_pay94, k0_pay95, k0_pay96) := by
  have hb : ∀ (u : ℕ → EReal), Best u (min (4 * 0) 54) (Ideal.ofBits .f32 0xFF800000#32) (Ideal.ofBits .f32 0x00000000#32) := by
    intro u; rw [c_bot, c_zero]; exact best_zero u
  exact fun r l => ⟨hb _, hb _, hb _, hb _⟩

end Cert.Panoptic.K

end
-- ==== Proof.Det.lean ====
/- One detection of the kernel's second loop, at a pixel: the two selection products read the detection's mask at the
   pixel's sample, so the product exceeds one half exactly where the pixel lies in the box and the sampled mask does. -/
module

public import proofs.«01_k».proof.Proof.Loop1

@[expose] public section

set_option maxRecDepth 16384

noncomputable section

namespace Cert.Panoptic

/-- The mask row (or column) sampled for pixel `n` of a box from `lo` to below `hi`. -/
def sI (lo hi : ℤ) (n : ℕ) : ℤ := min 27 (max 0 ⌊((n : ℝ) - lo + 1 / 2) * (28 * (1 / max ((hi : ℝ) - lo) 1))⌋)

/-- The sampled position is not negative. -/
theorem sI_nonneg (lo hi : ℤ) (n : ℕ) : 0 ≤ sI lo hi n := by unfold sI; omega
/-- The sampled position is inside the mask. -/
theorem sI_lt (lo hi : ℤ) (n : ℕ) : sI lo hi n < 28 := by unfold sI; omega

/-- The sampled mask row as an index. -/
def sN (lo hi : ℤ) (n : ℕ) : Fin 28 := ⟨(sI lo hi n).toNat, by have := sI_nonneg lo hi n; have := sI_lt lo hi n; omega⟩

/-- The pixel lies in the box and the sampled mask entry exceeds one half. -/
def Cov (m : Fin 28 → Fin 28 → EReal) (l0 h0 l1 h1 : ℤ) (y x : ℕ) : Prop :=
  (l0 ≤ y ∧ (y : ℤ) < h0) ∧ (l1 ≤ x ∧ (x : ℤ) < h1) ∧ ((1 / 2 : ℝ) : EReal) < m (sN l0 h0 y) (sN l1 h1 x)

end Cert.Panoptic

namespace Cert.Panoptic.K

open Idealize.ShloMosaic Idealize.ShloMosaic.TcCoe Idealize.ShloMosaic.Tactic Cert.KernelIdeal Cert.KernelIdeal.Gen Cert.Panoptic

/-- The value of this constant. -/
theorem c_half : Ideal.ofBits .f32 0x3F000000#32 = ((1 / 2 : ℝ) : EReal) := by
  simp [Ideal.ofBits, Ideal.ieee, -EReal.coe_mul]; norm_num
/-- The value of this constant. -/
theorem c_28 : Ideal.ofBits .f32 0x41E00000#32 = ((28 : ℝ) : EReal) := by
  simp [Ideal.ofBits, Ideal.ieee, -EReal.coe_mul]; norm_num
/-- The value of this constant. -/
theorem c_27 : Ideal.ofBits .f32 0x41D80000#32 = ((27 : ℝ) : EReal) := by
  simp [Ideal.ofBits, Ideal.ieee, -EReal.coe_mul]; norm_num
/-- The value of this constant. -/
theorem c_void : Ideal.ofBits .f32 0x4AC80000#32 = ((6553600 : ℝ) : EReal) := by
  simp [Ideal.ofBits, Ideal.ieee, -EReal.coe_mul]; norm_num

/-- The greater of two reals. -/
theorem coe_max (a b : ℝ) : max (a : EReal) (b : EReal) = ((max a b : ℝ) : EReal) :=
  (EReal.coe_strictMono.monotone.map_max (a := a) (b := b)).symm
/-- The lesser of two reals. -/
theorem coe_min (a b : ℝ) : min (a : EReal) (b : EReal) = ((min a b : ℝ) : EReal) :=
  (EReal.coe_strictMono.monotone.map_min (a := a) (b := b)).symm

/-- The sample's row in floating point is the integer one. -/
theorem samp_eq (lo hi : ℤ) (n : ℕ) :
    min (((27 : ℝ)) : EReal) (max 0 (Ideal.liftRound Int.floor
      ((((n : ℝ) : EReal) - ((lo : ℝ) : EReal) + ((1 / 2 : ℝ) : EReal)) * Ideal.div ((28 : ℝ) : EReal) (max (((hi : ℝ) : EReal) - ((lo : ℝ) : EReal)) 1))))
      = (((sI lo hi n : ℤ) : ℝ) : EReal) := by
  have h1 : (1 : EReal) = ((1 : ℝ) : EReal) := rfl
  have h0 : (0 : EReal) = ((0 : ℝ) : EReal) := rfl
  have hp : max ((hi : ℝ) - lo) 1 ≠ 0 := ne_of_gt (lt_of_lt_of_le one_pos (le_max_right _ _))
  rw [← EReal.coe_sub, ← EReal.coe_sub, h1, coe_max, Ideal.div_coe hp, ← EReal.coe_mul, ← EReal.coe_add, ← EReal.coe_mul, Ideal.liftRound_coe, h0,
    coe_max, coe_min]
  unfold sI
  push_cast
  rfl

/-- A converted small integer. -/
theorem sitofp_nat' {n : ℕ} (h : n < 2 ^ 31) : FloatOps.sitofp (F := Ideal) .f32 (BitVec.ofNat 32 n) = ((n : ℝ) : EReal) :=
  sitofp_nat h

/-- A converted truth value. -/
theorem sitofp_bool (p : Prop) [Decidable p] :
    FloatOps.sitofp (F := Ideal) .f32 (BitVec.setWidth 32 (BitVec.ofBool (decide p))) = if p then 1 else 0 := by
  by_cases h : p
  · rw [if_pos h, decide_eq_true h]
    have : BitVec.setWidth 32 (BitVec.ofBool true) = BitVec.ofNat 32 1 := by decide
    rw [this, sitofp_nat' (by norm_num)]; norm_num
  · rw [if_neg h, decide_eq_false h]
    have : BitVec.setWidth 32 (BitVec.ofBool false) = BitVec.ofNat 32 0 := by decide
    rw [this, sitofp_nat' (by norm_num)]; norm_num

/-- And, on bits of booleans. -/
theorem and_bool (a b : Bool) : IntOp.andi (BitVec.ofBool a) (BitVec.ofBool b) = BitVec.ofBool (a && b) := by
  cases a <;> cases b <;> rfl

/-- The box's end as the kernel clips it. -/
def hiW (b : BitVec 32) : ℤ := (Scalar.minsi (Scalar.addi b 1#32) 512#32).toInt

/-- The selection at a pixel and a mask row. -/
theorem sel_apply (lo hi : ℤ) (n : ℕ) (i : Fin 28) :
    FloatOps.sitofp (F := Ideal) .f32 (BitVec.setWidth 32
      (IntOp.andi (IntOp.andi (BitVec.ofBool (decide ((((i : ℕ) : ℝ) : EReal) = (((sI lo hi n : ℤ) : ℝ) : EReal))))
        (BitVec.ofBool (decide (((lo : ℝ) : EReal) ≤ ((n : ℝ) : EReal)))))
        (BitVec.ofBool (decide (((n : ℝ) : EReal) < ((hi : ℝ) : EReal))))))
      = if i = sN lo hi n ∧ (lo ≤ (n : ℤ) ∧ (n : ℤ) < hi) then 1 else 0 := by
  have e1 : ((((i : ℕ) : ℝ) : EReal) = (((sI lo hi n : ℤ) : ℝ) : EReal)) ↔ i = sN lo hi n := by
    rw [EReal.coe_eq_coe_iff]
    have := sI_nonneg lo hi n
    constructor
    · intro h
      have h' : ((i : ℕ) : ℤ) = sI lo hi n := by exact_mod_cast h
      apply Fin.ext; change (i : ℕ) = (sI lo hi n).toNat; omega
    · intro h
      have h' : (i : ℕ) = (sI lo hi n).toNat := congrArg Fin.val h
      have : ((i : ℕ) : ℤ) = sI lo hi n := by omega
      exact_mod_cast this
  have e2 : (((lo : ℝ) : EReal) ≤ ((n : ℝ) : EReal)) ↔ lo ≤ (n : ℤ) := by
    rw [EReal.coe_le_coe_iff]; exact_mod_cast Iff.rfl
  have e3 : (((n : ℝ) : EReal) < ((hi : ℝ) : EReal)) ↔ (n : ℤ) < hi := by
    rw [EReal.coe_lt_coe_iff]; exact_mod_cast Iff.rfl
  simp only [e1, e2, e3]
  rw [and_bool, and_bool, ← Bool.decide_and, ← Bool.decide_and, sitofp_bool]
  simp only [and_assoc]

/-- The row selection at a pixel row and mask row. -/
theorem row_apply (b0 b2 : BitVec 32) (y : Fin 512) (i : Fin 28) :
    k0_pay68 (F := Ideal) k0_pay126 k0_pay127 b0 b2 (ix2 y i) =
      if i = sN b0.toInt (hiW b2) y ∧ (b0.toInt ≤ (y : ℕ) ∧ ((y : ℕ) : ℤ) < hiW b2) then 1 else 0 := by
  pointwise [k0_pay68, k0_pay126, k0_pay127]
  have e : (Scalar.minsi (Scalar.addi b2 1#32) 512#32).toInt = hiW b2 := rfl
  rw [sitofp_nat' (by omega), sitofp_nat' (by omega), c_half, c_28, c_27, e, samp_eq b0.toInt (hiW b2) y, sel_apply]

/-- A sum against a selection. -/
theorem sum_sel (s : Fin 28) (A : Prop) [Decidable A] (f : Fin 28 → EReal) :
    (∑ i : Fin 28, (if i = s ∧ A then (1 : EReal) else 0) * f i) = if A then f s else 0 := by
  by_cases h : A
  · simp [h]
  · simp [h]

/-- A sum that selects one row, under a condition. -/
theorem sum_sel' (s : Fin 28) (A : Prop) [Decidable A] (f : Fin 28 → EReal) :
    (∑ i : Fin 28, f i * (if i = s ∧ A then (1 : EReal) else 0)) = if A then f s else 0 := by
  by_cases h : A
  · simp [h]
  · simp [h]

/-- One detection's contribution as the kernel computes it: from its box, its mask's block and its code. -/
def detK (b0 b1 b2 b3 : BitVec 32) (M : FVec Ideal S1x1x28x28 .f32) (e : FVec Ideal S1x1 .f32) : FVec Ideal S512x512 .f32 :=
  k0_pay69 k0_pay128 k0_pay129 (k0_pay65 b1) (k0_pay66 b3) (k0_pay67 b1 b3) (k0_pay68 k0_pay126 k0_pay127 b0 b2) M e

open Classical in
/-- It is the detection's code where the detection covers the pixel, and the void code elsewhere. -/
theorem detK_apply (b0 b1 b2 b3 : BitVec 32) (M : FVec Ideal S1x1x28x28 .f32) (e : FVec Ideal S1x1 .f32) (y x : Fin 512) :
    detK b0 b1 b2 b3 M e (ix2 y x) =
      if Cov (fun i j => M (ix4 0 0 i j)) b0.toInt (hiW b2) b1.toInt (hiW b3) y x then e (ix2 0 0) else ((6553600 : ℝ) : EReal) := by
  unfold detK
  pointwise [k0_pay69, k0_pay128, k0_pay129]
  have e1 : k0_pay65 (F := Ideal) b1 = ((b1.toInt : ℝ) : EReal) := rfl
  have e3 : k0_pay66 (F := Ideal) b3 = ((hiW b3 : ℝ) : EReal) := rfl
  have e13 : k0_pay67 (F := Ideal) b1 b3 = max (((hiW b3 : ℝ) : EReal) - ((b1.toInt : ℝ) : EReal)) 1 := by
    have : Ideal.ofBits .f32 0x3F800000#32 = 1 := by simp [Ideal.ofBits, Ideal.ieee, -EReal.coe_mul]; norm_num
    rw [← this]; rfl
  have es : ∀ n : Fin 28, FloatOps.sitofp (F := Ideal) .f32 (BitVec.ofNat 32 (n : ℕ)) = (((n : ℕ) : ℝ) : EReal) := fun n => sitofp_nat' (by omega)
  rw [e1, e3, e13, c_void]
  simp only [row_apply, es, sitofp_nat' (show (x : ℕ) < 2 ^ 31 by omega), c_half, c_28, c_27, samp_eq, sel_apply, sitofp_bool, sum_sel, sum_sel']
  refine if_congr ?_ rfl rfl
  unfold Cov
  have t0 : ¬ ((1 / 2 : ℝ) : EReal) < 0 := by
    have : (0 : EReal) = ((0 : ℝ) : EReal) := rfl
    rw [this, EReal.coe_lt_coe_iff]; norm_num
  have t1 : ((1 / 2 : ℝ) : EReal) < 1 := by
    have : (1 : EReal) = ((1 : ℝ) : EReal) := rfl
    rw [this, EReal.coe_lt_coe_iff]; norm_num
  generalize ((1 / 2 : ℝ) : EReal) = h at *
  split_ifs with h1 h2 h3 <;> tauto

end Cert.Panoptic.K

end
-- ==== Proof.Loop2.lean ====
/- The kernel's second loop: twenty-five trips of four detections each leave, at every pixel, the least code of the
   detections covering it. -/
module

public import proofs.«01_k».proof.Proof.Det

@[expose] public section

set_option maxRecDepth 16384

noncomputable section

namespace Cert.Panoptic.K

open Idealize.ShloMosaic Idealize.ShloMosaic.TcCoe Idealize.ShloMosaic.Tactic Cert.KernelIdeal Cert.KernelIdeal.Gen Cert.Panoptic

/-- Detection `d`'s mask block, the last one repeated. -/
def maskB (X : FVec Ideal S1x128x28x28 .f32) (d : ℕ) : FVec Ideal S1x1x28x28 .f32 :=
  fun i => X (ix4 0 ⟨min d 127, by omega⟩ (i 2) (i 3))
/-- Detection `d`'s code block. -/
def codeB (E : FVec Ideal S128x1 .f32) (d : ℕ) : FVec Ideal S1x1 .f32 := fun _ => E (ix2 ⟨min d 127, by omega⟩ 0)
/-- Detection `d`'s box side. -/
def boxB (B : IVec S2x128x4 32) (b : Fin 2) (d : ℕ) (q : Fin 4) : BitVec 32 := B (ix3 b ⟨min d 127, by omega⟩ q)

/-- Detection `d`'s contribution. -/
def detQ (X : FVec Ideal S1x128x28x28 .f32) (B : IVec S2x128x4 32) (b : Fin 2) (E : FVec Ideal S128x1 .f32) (d : ℕ) : FVec Ideal S512x512 .f32 :=
  detK (boxB B b d 0) (boxB B b d 1) (boxB B b d 2) (boxB B b d 3) (maskB X d) (codeB E d)

/-- The detection's number as the trip computes it. -/
def dW (k : Fin k0_t2_loop.trips) (j : Fin 4) : BitVec 32 :=
  match j with
  | 0 => Scf.iv 0#32 1#32 ↑k
  | 1 => Scalar.addi (Scf.iv 0#32 1#32 ↑k) 25#32
  | 2 => Scalar.addi (Scf.iv 0#32 1#32 ↑k) 50#32
  | 3 => Scalar.addi (Scf.iv 0#32 1#32 ↑k) 75#32

/-- The detection read at a trip, as a number. -/
theorem dW_nat : ∀ (k : Fin k0_t2_loop.trips) (j : Fin 4),
    BitVec.toNat (Scalar.indexCast (dW k j)) = (k : ℕ) + 25 * (j : ℕ) := by decide +kernel

/-- The batch, as a number. -/
theorem bW_nat : ∀ b : Fin 2, BitVec.toNat (Scalar.indexCast (BitVec.ofNat 32 (b : ℕ))) = (b : ℕ) := by decide +kernel

/-- The second loop makes 25 trips. -/
theorem trips2 : k0_t2_loop.trips = 25 := by decide

section Trip

variable (𝒱 : Variants) (c : Dev nD) (bd : Option 𝒱.V) (i : grid0.Coords) (arg1 : Memref sig .tc .vmem S1x128x1 .f32) (harg1 : arg1.IsWhole) (arg2 : Memref sig .tc .vmem S1x1x128 .f32) (harg2 : arg2.IsWhole) (arg3 : Memref sig .tc .vmem S1x128x1 .f32) (harg3 : arg3.IsWhole) (arg4 : Memref sig .tc .vmem S1x128x28x28 .f32) (harg4 : arg4.IsWhole) (arg5 : Memref sig .tc .vmem S1x54x128x128 .f32) (harg5 : arg5.IsWhole) (arg6 : Memref sig .tc .vmem S512x512 .f32) (harg6 : arg6.IsWhole) (arg7 : Memref sig .tc .smem S2x128 .f32) (harg7 : arg7.IsWhole) (arg8 : Memref sig .tc .smem S2x128x4 .i32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S128x1 .f32) (harg11 : arg11.IsWhole)

/-- The box read lies inside the block. -/
theorem box_inb (b : Fin 2) (k : Fin k0_t2_loop.trips) (j q : Fin 4) :
    ∀ a, (![BitVec.toNat (Scalar.indexCast (BitVec.ofNat 32 (b : ℕ))), BitVec.toNat (Scalar.indexCast (dW k j)), (q : ℕ)] : Fin 3 → ℕ) a
      + S1x1x1.size a ≤ S2x128x4.size a := by
  intro a
  rw [dW_nat, bW_nat]
  have : (k : ℕ) < 25 := lt_of_lt_of_eq k.isLt trips2
  fin_cases a
  · change (b : ℕ) + 1 ≤ 2; omega
  · change (k : ℕ) + 25 * (j : ℕ) + 1 ≤ 128; omega
  · change (q : ℕ) + 1 ≤ 4; omega

/-- The box side a trip loads. -/
def ldB (B : IVec S2x128x4 32) (b : Fin 2) (k : Fin k0_t2_loop.trips) (j q : Fin 4) : BitVec 32 :=
  View.readAt (Elt Ideal) arg8.view
    (Rect.unit (s := S2x128x4) ![BitVec.toNat (Scalar.indexCast (BitVec.ofNat 32 (b : ℕ))), BitVec.toNat (Scalar.indexCast (dW k j)), (q : ℕ)]
      S1x1x1.size (box_inb b k j q)).toLoadRect
    (harg8.unread B) (Shape.Idx.first (show 0 < S1x1x1.numel by decide))

/-- It is the detection's box side. -/
theorem ldB_eq (B : IVec S2x128x4 32) (b : Fin 2) (k : Fin k0_t2_loop.trips) (j q : Fin 4) :
    ldB arg8 harg8 B b k j q = boxB B b (k + 25 * j) q := by
  unfold ldB
  have h := View.readAt_eq_ld (Val := Elt Ideal) arg8.view (harg8.unread B)
    (Rect.unit (s := S2x128x4) ![BitVec.toNat (Scalar.indexCast (BitVec.ofNat 32 (b : ℕ))), BitVec.toNat (Scalar.indexCast (dW k j)), (q : ℕ)]
      S1x1x1.size (box_inb b k j q))
  rw [harg8.read_unread] at h
  rw [h]
  unfold boxB
  refine View.ld_unit_apply_of (S := S2x128x4) _ _ _ _ _ _ fun a => ?_
  have e := dW_nat k j
  have e' := bW_nat b
  have : (k : ℕ) < 25 := lt_of_lt_of_eq k.isLt trips2
  fin_cases a
  · change (b : ℕ) = BitVec.toNat (Scalar.indexCast (BitVec.ofNat 32 (b : ℕ))) + 0; omega
  · change min ((k : ℕ) + 25 * (j : ℕ)) 127 = BitVec.toNat (Scalar.indexCast (dW k j)) + 0; omega
  · change (q : ℕ) = (q : ℕ) + 0; omega

/-- The mask read lies inside the block. -/
theorem mask_inb (k : Fin k0_t2_loop.trips) (j : Fin 4) :
    ∀ a, (![0, BitVec.toNat (Scalar.indexCast (dW k j)), 0, 0] : Fin 4 → ℕ) a + S1x1x28x28.size a ≤ S1x128x28x28.size a := by
  intro a
  rw [dW_nat]
  have : (k : ℕ) < 25 := lt_of_lt_of_eq k.isLt trips2
  fin_cases a
  · change 0 + 1 ≤ 1; omega
  · change (k : ℕ) + 25 * (j : ℕ) + 1 ≤ 128; omega
  · change 0 + 28 ≤ 28; omega
  · change 0 + 28 ≤ 28; omega

/-- The mask block a trip loads. -/
def ldM (X : FVec Ideal S1x128x28x28 .f32) (k : Fin k0_t2_loop.trips) (j : Fin 4) : FVec Ideal S1x1x28x28 .f32 :=
  View.readAt (Elt Ideal) arg4.view
    (Rect.unit (s := S1x128x28x28) ![0, BitVec.toNat (Scalar.indexCast (dW k j)), 0, 0] S1x1x28x28.size (mask_inb k j)).toLoadRect
    (harg4.unread X)

/-- It is the detection's mask block. -/
theorem ldM_eq (X : FVec Ideal S1x128x28x28 .f32) (k : Fin k0_t2_loop.trips) (j : Fin 4) :
    ldM arg4 harg4 X k j = maskB X (k + 25 * j) := by
  unfold ldM
  rw [View.readAt_eq_ld, harg4.read_unread]
  funext x
  unfold maskB
  refine View.ld_unit_apply_of (S := S1x128x28x28) _ _ _ _ _ _ fun a => ?_
  have e := dW_nat k j
  have : (k : ℕ) < 25 := lt_of_lt_of_eq k.isLt trips2
  have h0 : (x 0 : ℕ) = 0 := by have := (x 0).isLt; change _ < 1 at this; omega
  have h1 : (x 1 : ℕ) = 0 := by have := (x 1).isLt; change _ < 1 at this; omega
  fin_cases a
  · change 0 = 0 + (x 0 : ℕ); omega
  · change min ((k : ℕ) + 25 * (j : ℕ)) 127 = BitVec.toNat (Scalar.indexCast (dW k j)) + (x 1 : ℕ); omega
  · change (x 2 : ℕ) = 0 + (x 2 : ℕ); omega
  · change (x 3 : ℕ) = 0 + (x 3 : ℕ); omega

/-- The code read lies inside the scratch. -/
theorem code_inb (k : Fin k0_t2_loop.trips) (j : Fin 4) :
    ∀ a, (![BitVec.toNat (Scalar.indexCast (dW k j)), 0] : Fin 2 → ℕ) a + S1x1.size a ≤ S128x1.size a := by
  intro a
  rw [dW_nat]
  have : (k : ℕ) < 25 := lt_of_lt_of_eq k.isLt trips2
  fin_cases a
  · change (k : ℕ) + 25 * (j : ℕ) + 1 ≤ 128; omega
  · change 0 + 1 ≤ 1; omega

/-- The code a trip loads. -/
def ldE (XE : BufTy.Contents (Elt Ideal) arg11.view.ty) (k : Fin k0_t2_loop.trips) (j : Fin 4) : FVec Ideal S1x1 .f32 :=
  View.readAt (Elt Ideal) arg11.view
    (Rect.unit (s := S128x1) ![BitVec.toNat (Scalar.indexCast (dW k j)), 0] S1x1.size (code_inb k j)).toLoadRect XE

/-- It is the detection's code. -/
theorem ldE_eq (XE : BufTy.Contents (Elt Ideal) arg11.view.ty) (E : FVec Ideal S128x1 .f32) (hE : arg11.view.read (Elt Ideal) XE = E)
    (k : Fin k0_t2_loop.trips) (j : Fin 4) : ldE arg11 XE k j = codeB E (k + 25 * j) := by
  unfold ldE
  rw [View.readAt_eq_ld, hE]
  funext x
  unfold codeB
  refine View.ld_unit_apply_of (S := S128x1) _ _ _ _ _ _ fun a => ?_
  have e := dW_nat k j
  have : (k : ℕ) < 25 := lt_of_lt_of_eq k.isLt trips2
  have h0 : (x 0 : ℕ) = 0 := by have := (x 0).isLt; change _ < 1 at this; omega
  have h1 : (x 1 : ℕ) = 0 := by have := (x 1).isLt; change _ < 1 at this; omega
  fin_cases a
  · change min ((k : ℕ) + 25 * (j : ℕ)) 127 = BitVec.toNat (Scalar.indexCast (dW k j)) + (x 0 : ℕ); omega
  · change 0 = 0 + (x 1 : ℕ); omega

/-- One detection's contribution from the loads. -/
def ldQ (X : FVec Ideal S1x128x28x28 .f32) (B : IVec S2x128x4 32) (b : Fin 2) (XE : BufTy.Contents (Elt Ideal) arg11.view.ty)
    (k : Fin k0_t2_loop.trips) (j : Fin 4) : FVec Ideal S512x512 .f32 :=
  detK (ldB arg8 harg8 B b k j 0) (ldB arg8 harg8 B b k j 1) (ldB arg8 harg8 B b k j 2) (ldB arg8 harg8 B b k j 3) (ldM arg4 harg4 X k j) (ldE arg11 XE k j)

/-- One trip takes the least of the value so far and four detections' contributions. -/
theorem trip2_eq (X : FVec Ideal S1x128x28x28 .f32) (B : IVec S2x128x4 32) (XE : BufTy.Contents (Elt Ideal) arg11.view.ty)
    (E : FVec Ideal S128x1 .f32) (hE : arg11.view.read (Elt Ideal) XE = E) (b : Fin 2) (hb : i 0 = b)
    (v36 v37 v38 : FVec Ideal S128x512 .f32) (k : Fin k0_t2_loop.trips) (acc : FVec Ideal S512x512 .f32) :
    tripR_k0_t2 (F := Ideal) 𝒱 c bd i arg1 harg1 arg2 harg2 arg3 harg3 arg4 harg4 arg5 harg5 arg6 harg6 arg7 harg7 arg8 harg8 arg9 harg9 arg10 harg10 arg11 harg11 (BitVec.ofNat 32 ↑(i 0)) v36 v37 v38 (harg4.unread X) (harg8.unread B) XE k acc
      = minimumf acc (minimumf (minimumf (detQ X B b E k) (detQ X B b E (k + 25))) (minimumf (detQ X B b E (k + 50)) (detQ X B b E (k + 75)))) := by
  have h : tripR_k0_t2 (F := Ideal) 𝒱 c bd i arg1 harg1 arg2 harg2 arg3 harg3 arg4 harg4 arg5 harg5 arg6 harg6 arg7 harg7 arg8 harg8 arg9 harg9 arg10 harg10 arg11 harg11 (BitVec.ofNat 32 ↑(i 0)) v36 v37 v38 (harg4.unread X) (harg8.unread B) XE k acc
      = minimumf acc (minimumf (minimumf (ldQ arg4 harg4 arg8 harg8 arg11 X B (i 0) XE k 0) (ldQ arg4 harg4 arg8 harg8 arg11 X B (i 0) XE k 1))
          (minimumf (ldQ arg4 harg4 arg8 harg8 arg11 X B (i 0) XE k 2) (ldQ arg4 harg4 arg8 harg8 arg11 X B (i 0) XE k 3))) := by
    unfold tripR_k0_t2 trip_k0_t2
    dsimp only
    sl_unfold_words
    rfl
  have hq : ∀ j, ldQ arg4 harg4 arg8 harg8 arg11 X B (i 0) XE k j = detQ X B b E (k + 25 * j) := by
    intro j; unfold ldQ detQ; rw [hb]
    rw [ldB_eq, ldB_eq, ldB_eq, ldB_eq, ldM_eq, ldE_eq _ _ E hE]
  have n0 : (k : ℕ) + 25 * ((0 : Fin 4) : ℕ) = k := by simp
  have n1 : (k : ℕ) + 25 * ((1 : Fin 4) : ℕ) = k + 25 := by simp
  have n2 : (k : ℕ) + 25 * ((2 : Fin 4) : ℕ) = k + 50 := by change (k : ℕ) + 25 * 2 = _; omega
  have n3 : (k : ℕ) + 25 * ((3 : Fin 4) : ℕ) = k + 75 := by change (k : ℕ) + 25 * 3 = _; omega
  rw [h, hq, hq, hq, hq, n0, n1, n2, n3]

/-- The loop's carried value after `n` trips. -/
theorem st2_iter (X : FVec Ideal S1x128x28x28 .f32) (B : IVec S2x128x4 32) (XE : BufTy.Contents (Elt Ideal) arg11.view.ty)
    (E : FVec Ideal S128x1 .f32) (hE : arg11.view.read (Elt Ideal) XE = E) (b : Fin 2) (hb : i 0 = b)
    (v36 v37 v38 : FVec Ideal S128x512 .f32) (s0 : FVec Ideal S512x512 .f32)
    (P : ℕ → FVec Ideal S512x512 .f32 → Prop) (h0 : P 0 s0)
    (hs : ∀ n s, n < 25 → P n s → P (n + 1) (minimumf s (minimumf (minimumf (detQ X B b E n) (detQ X B b E (n + 25)))
      (minimumf (detQ X B b E (n + 50)) (detQ X B b E (n + 75)))))) :
    ∀ n, n ≤ 25 → P n (st_k0_t2 (F := Ideal) 𝒱 c bd i arg1 harg1 arg2 harg2 arg3 harg3 arg4 harg4 arg5 harg5 arg6 harg6 arg7 harg7 arg8 harg8 arg9 harg9 arg10 harg10 arg11 harg11 (BitVec.ofNat 32 ↑(i 0)) v36 v37 v38 (harg4.unread X) (harg8.unread B) XE s0 n) := by
  intro n
  induction n with
  | zero => intro _; exact h0
  | succ n ih =>
    intro hn
    have e := st_k0_t2_succ (F := Ideal) 𝒱 c bd i arg1 harg1 arg2 harg2 arg3 harg3 arg4 harg4 arg5 harg5 arg6 harg6 arg7 harg7 arg8 harg8 arg9 harg9 arg10 harg10 arg11 harg11 (BitVec.ofNat 32 ↑(i 0)) v36 v37 v38 (harg4.unread X) (harg8.unread B) XE s0 ⟨n, by rw [trips2]; omega⟩
    rw [trip2_eq 𝒱 c bd i arg1 harg1 arg2 harg2 arg3 harg3 arg4 harg4 arg5 harg5 arg6 harg6 arg7 harg7 arg8 harg8 arg9 harg9 arg10 harg10 arg11 harg11 X B XE E hE b hb] at e
    rw [e]
    exact hs n _ (by omega) (ih (by omega))

end Trip

end Cert.Panoptic.K

end
-- ==== Proof.Decode.lean ====
/- The kernel's codes: what number encodes a detection, and what the two results are where the least code is a detection's
   and where it is the void code. -/
module

public import proofs.«01_k».proof.Proof.Loop2

@[expose] public section

set_option maxRecDepth 16384

noncomputable section

namespace Cert.Panoptic

open Idealize.ShloMosaic

/-- The score threshold. -/
def thr : EReal := Ideal.ofBits .f32 0x3D4CCCCD#32

/-- The threshold is a real number between minus one and one. -/
theorem thr_coe : ∃ t : ℝ, thr = (t : EReal) ∧ 0 < t := by
  refine ⟨13421773 / 268435456, ?_, by norm_num⟩
  unfold thr
  simp [Ideal.ofBits, Ideal.ieee, -EReal.coe_mul]; norm_num

/-- The two results at a pixel: `P` the detections covering it, `s` the scores, `cls` the classes, `seg` the greatest
channel. The covering detection of the greatest score gives its class and its number plus one; without one, the class is the
channel moved up by ninety (channels zero and one give none) and the number is minus one. -/
structure Res (P : ℕ → Prop) (s : ℕ → EReal) (cls : ℕ → ℕ) (seg : ℕ) (cat inst : BitVec 32) : Prop where
  found : ∀ o v, FirstMax P s v o → cat = BitVec.ofNat 32 (cls o) ∧ inst = BitVec.ofNat 32 (o + 1)
  void : (∀ d, ¬P d) → cat = (if seg = 0 ∨ seg = 1 then 0#32 else BitVec.ofNat 32 (seg + 90)) ∧ inst = BitVec.ofInt 32 (-1)

/-- The results are determined. -/
theorem Res.unique {P : ℕ → Prop} {s : ℕ → EReal} {cls : ℕ → ℕ} {seg : ℕ} {c i c' i' : BitVec 32} {n : ℕ}
    (hP : ∀ d, P d → d < n) (h : Res P s cls seg c i) (h' : Res P s cls seg c' i') : c = c' ∧ i = i' := by
  by_cases e : ∃ d, P d
  · obtain ⟨o, ho⟩ := FirstMax.exists_of s hP e
    obtain ⟨a, b⟩ := h.found o _ ho
    obtain ⟨a', b'⟩ := h'.found o _ ho
    exact ⟨a.trans a'.symm, b.trans b'.symm⟩
  · have e' : ∀ d, ¬P d := fun d hd => e ⟨d, hd⟩
    obtain ⟨a, b⟩ := h.void e'
    obtain ⟨a', b'⟩ := h'.void e'
    exact ⟨a.trans a'.symm, b.trans b'.symm⟩

/-- Equal coverings give equal results. -/
theorem Res.congr {P Q : ℕ → Prop} {s : ℕ → EReal} {cls : ℕ → ℕ} {seg : ℕ} {c i : BitVec 32}
    (h : Res P s cls seg c i) (hPQ : ∀ d, P d ↔ Q d) : Res Q s cls seg c i :=
  ⟨fun o v ho => h.found o v (ho.congr fun k => (hPQ k).symm), fun hQ => h.void fun d hd => hQ d ((hPQ d).1 hd)⟩

/-- A natural number converted to an integer word. -/
theorem fptosi_nat {n : ℕ} (h : n < 2 ^ 31) : FloatOps.fptosi (F := Ideal) (φ := .f32) 32 (((n : ℝ)) : EReal) = BitVec.ofNat 32 n := by
  change Ideal.fptosi 32 _ = _
  unfold Ideal.fptosi
  rw [Ideal.toIntClamped_coe, if_pos (Nat.cast_nonneg n), Int.floor_natCast]
  have : max (-(2 ^ (32 - 1) : ℕ) : ℤ) (min ((2 ^ (32 - 1) : ℕ) - 1) (n : ℤ)) = n := by
    norm_num at h ⊢; omega
  rw [this]; simp

/-- Minus one converted to an integer word. -/
theorem fptosi_neg_one : FloatOps.fptosi (F := Ideal) (φ := .f32) 32 (((-1 : ℝ)) : EReal) = BitVec.ofInt 32 (-1) := by
  change Ideal.fptosi 32 _ = _
  unfold Ideal.fptosi
  rw [Ideal.toIntClamped_coe, if_neg (by norm_num)]
  have : ⌈(-1 : ℝ)⌉ = -1 := by
    have := Int.ceil_intCast (R := ℝ) (-1); push_cast at this; exact this
  rw [this]; norm_num

/-- The floor of a quotient of naturals. -/
theorem floor_nat (n m : ℕ) (hm : 0 < m) : Ideal.liftRound Int.floor ((n : ℝ) * (1 / (m : ℝ)) : ℝ) = (((n / m : ℕ) : ℝ) : EReal) := by
  rw [Ideal.liftRound_coe]
  have : ⌊(n : ℝ) * (1 / (m : ℝ))⌋ = ((n / m : ℕ) : ℤ) := by
    have hm' : (0 : ℝ) < m := by exact_mod_cast hm
    have h := Nat.div_add_mod n m
    have h' := Nat.mod_lt n hm
    rw [mul_one_div, Int.floor_eq_iff, le_div_iff₀ hm', div_lt_iff₀ hm']
    refine ⟨?_, ?_⟩
    · have : n / m * m ≤ n := Nat.div_mul_le_self n m
      exact_mod_cast this
    · have : n < (n / m + 1) * m := by
        have : (n / m + 1) * m = m * (n / m) + m := by ring
        omega
      exact_mod_cast this
  rw [this]; push_cast; rfl

end Cert.Panoptic

namespace Cert.Panoptic.K

open Idealize.ShloMosaic Idealize.ShloMosaic.TcCoe Idealize.ShloMosaic.Tactic Cert.KernelIdeal Cert.KernelIdeal.Gen Cert.Panoptic

/-- The value of this constant. -/
theorem c_65536 : Ideal.ofBits .f32 0x47800000#32 = ((65536 : ℝ) : EReal) := by
  simp [Ideal.ofBits, Ideal.ieee, -EReal.coe_mul]; norm_num
/-- The value of this constant. -/
theorem c_128 : Ideal.ofBits .f32 0x43000000#32 = ((128 : ℝ) : EReal) := by
  simp [Ideal.ofBits, Ideal.ieee, -EReal.coe_mul]; norm_num
/-- The value of this constant. -/
theorem c_90 : Ideal.ofBits .f32 0x42B40000#32 = ((90 : ℝ) : EReal) := by
  simp [Ideal.ofBits, Ideal.ieee, -EReal.coe_mul]; norm_num
/-- The value of this constant. -/
theorem c_inv65536 : Ideal.ofBits .f32 0x37800000#32 = ((1 / (65536 : ℕ) : ℝ) : EReal) := by
  simp [Ideal.ofBits, Ideal.ieee, -EReal.coe_mul]; norm_num
/-- The value of this constant. -/
theorem c_inv128 : Ideal.ofBits .f32 0x3C000000#32 = ((1 / (128 : ℕ) : ℝ) : EReal) := by
  simp [Ideal.ofBits, Ideal.ieee, -EReal.coe_mul]; norm_num
/-- The value of this constant. -/
theorem c_neg1 : Ideal.ofBits .f32 0xBF800000#32 = ((-1 : ℝ) : EReal) := by
  simp [Ideal.ofBits, Ideal.ieee, -EReal.coe_mul, -EReal.coe_neg]; norm_num

/-- The comparison of two small indices. -/
theorem slt_idx : ∀ x d : Fin 128, IntOp.cmpi .slt (BitVec.ofNat 32 (x : ℕ)) (BitVec.ofNat 32 (d : ℕ)) = BitVec.ofBool (decide ((x : ℕ) < d)) := by
  decide +kernel

/-- Or, on bits of booleans. -/
theorem or_bool (a b : Bool) : IntOp.ori (BitVec.ofBool a) (BitVec.ofBool b) = BitVec.ofBool (a || b) := by
  cases a <;> cases b <;> rfl

open Classical in
/-- The code the kernel stores for a detection. -/
theorem code_apply (v0 : FVec Ideal S1x128x1 .f32) (v2 : FVec Ideal S1x1x128 .f32) (v19 : FVec Ideal S1x128x1 .f32)
    (s : ℕ → EReal) (cls : ℕ → ℕ) (h0 : ∀ d : Fin 128, v0 (ix3 0 d 0) = s d) (h2 : ∀ d : Fin 128, v2 (ix3 0 0 d) = s d)
    (hc : ∀ d : Fin 128, v19 (ix3 0 d 0) = ((cls d : ℝ) : EReal)) (d : Fin 128) :
    k0_pay88 (F := Ideal) v0 v2 v19 (ix2 d 0) = if thr < s d then ((encN s cls d : ℝ) : EReal) else Cert.Panoptic.void := by
  pointwise [k0_pay88]
  have hd : FloatOps.sitofp (F := Ideal) .f32 (BitVec.ofNat 32 (d : ℕ)) = (((d : ℕ) : ℝ) : EReal) := sitofp_nat' (by omega)
  rw [hd, c_65536, c_128, c_void]
  simp only [h0, h2, hc, slt_idx, and_bool, or_bool, ← Bool.decide_and, ← Bool.decide_or, sitofp_bool]
  rw [rk_eq_sum s d _ (fun e => Iff.rfl)]
  refine if_congr Iff.rfl ?_ rfl
  unfold encN
  rw [← EReal.coe_mul, ← EReal.coe_mul, ← EReal.coe_add, ← EReal.coe_add]
  push_cast
  rfl

/-- The class and the number decoded from a detection's code. -/
theorem decode {r c o : ℕ} (hr : r < 100) (hc : c ≤ 511) (ho : o < 128) {N : ℕ} (hN : N = r * 65536 + c * 128 + o) :
    ((N : ℝ) : EReal) < Ideal.ofBits .f32 0x4AC80000#32
    ∧ ((N : ℝ) : EReal) - Ideal.liftRound Int.floor (((N : ℝ) : EReal) * Ideal.ofBits .f32 0x37800000#32) * Ideal.ofBits .f32 0x47800000#32
        = (((c * 128 + o : ℕ) : ℝ) : EReal)
    ∧ Ideal.liftRound Int.floor ((((c * 128 + o : ℕ) : ℝ) : EReal) * Ideal.ofBits .f32 0x3C000000#32) = ((c : ℝ) : EReal) := by
  have d1 : N / 65536 = r := by omega
  have d2 : (c * 128 + o) / 128 = c := by omega
  refine ⟨?_, ?_, ?_⟩
  · rw [c_void, EReal.coe_lt_coe_iff]
    have : N < 6553600 := by omega
    exact_mod_cast this
  · rw [c_inv65536, ← EReal.coe_mul, floor_nat _ _ (by norm_num), d1, c_65536, ← EReal.coe_mul, ← EReal.coe_sub, hN]
    congr 1
    push_cast; ring
  · rw [c_inv128, ← EReal.coe_mul, floor_nat _ _ (by norm_num), d2]

/-- The class result where the least code is a detection's. -/
theorem cat_found (seg e : FVec Ideal S512x512 .f32) (y x : Fin 512) {r c o N : ℕ} (hr : r < 100) (hc : c ≤ 511) (ho : o < 128)
    (hN : N = r * 65536 + c * 128 + o) (he : e (ix2 y x) = ((N : ℝ) : EReal)) :
    k0_pay1 seg (k0_pay132 e) (k0_pay134 e) (ix3 0 y x) = BitVec.ofNat 32 c := by
  pointwise [k0_pay1, k0_pay132, k0_pay134, k0_pay133]
  obtain ⟨h1, h2, h3⟩ := decode hr hc ho hN
  rw [he, h2, h3, if_pos h1, decide_eq_true h1]
  have : IntOp.xori (BitVec.ofBool true) 1#1 = BitVec.ofBool false := by decide
  rw [this, and_bool, and_bool, Bool.false_and]
  exact fptosi_nat (by omega)

/-- The number result where the least code is a detection's. -/
theorem inst_found (e : FVec Ideal S512x512 .f32) (y x : Fin 512) {r c o N : ℕ} (hr : r < 100) (hc : c ≤ 511) (ho : o < 128)
    (hN : N = r * 65536 + c * 128 + o) (he : e (ix2 y x) = ((N : ℝ) : EReal)) :
    k0_pay2 (k0_pay132 e) (k0_pay133 e) (k0_pay134 e) (FloatOps.ofBits (F := Ideal) .f32 0x43000000#32) (ix3 0 y x) = BitVec.ofNat 32 (o + 1) := by
  pointwise [k0_pay2, k0_pay132, k0_pay134, k0_pay133]
  obtain ⟨h1, h2, h3⟩ := decode hr hc ho hN
  rw [he, h2, h3, if_pos h1, c_128]
  have h1' : (1 : EReal) = ((1 : ℝ) : EReal) := rfl
  rw [← EReal.coe_mul, ← EReal.coe_sub, h1', ← EReal.coe_add]
  have : (((c * 128 + o : ℕ) : ℝ) - (c : ℝ) * 128 + 1) = ((o + 1 : ℕ) : ℝ) := by push_cast; ring
  rw [this]
  exact fptosi_nat (by omega)

/-- The class result where the least code is the void code. -/
theorem cat_void (seg e : FVec Ideal S512x512 .f32) (y x : Fin 512) {k : ℕ} (hk : k < 54)
    (he : e (ix2 y x) = Cert.Panoptic.void) (hs : seg (ix2 y x) = ((k : ℝ) : EReal)) :
    k0_pay1 seg (k0_pay132 e) (k0_pay134 e) (ix3 0 y x) = if k = 0 ∨ k = 1 then 0#32 else BitVec.ofNat 32 (k + 90) := by
  pointwise [k0_pay1, k0_pay132, k0_pay134, k0_pay133]
  have h1 : ¬ (Cert.Panoptic.void < Ideal.ofBits .f32 0x4AC80000#32) := by rw [c_void]; exact lt_irrefl _
  rw [he, hs, if_neg h1, decide_eq_false h1, c_90]
  have e0 : (((k : ℝ) : EReal) ≠ 0) ↔ k ≠ 0 := by
    have : (0 : EReal) = ((0 : ℕ) : ℝ) := by simp
    rw [this, Ne, EReal.coe_eq_coe_iff, Nat.cast_inj]
  have e1 : (((k : ℝ) : EReal) ≠ 1) ↔ k ≠ 1 := by
    have : (1 : EReal) = ((1 : ℕ) : ℝ) := by simp
    rw [this, Ne, EReal.coe_eq_coe_iff, Nat.cast_inj]
  simp only [e0, e1]
  have : IntOp.xori (BitVec.ofBool false) 1#1 = BitVec.ofBool true := by decide
  rw [this, and_bool, and_bool, Bool.true_and]
  by_cases h : k = 0 ∨ k = 1
  · rw [if_pos h]
    have : (decide (k ≠ 0) && decide (k ≠ 1)) = false := by rcases h with rfl | rfl <;> rfl
    rw [this]
    have := fptosi_nat (n := 0) (by norm_num)
    rw [← this]
    change FloatOps.fptosi (F := Ideal) (φ := .f32) 32 (0 : EReal) = _
    simp
  · rw [if_neg h]
    have : (decide (k ≠ 0) && decide (k ≠ 1)) = true := by simp; omega
    rw [this]
    have := fptosi_nat (n := k + 90) (by omega)
    rw [← this]
    change FloatOps.fptosi (F := Ideal) (φ := .f32) 32 _ = _
    rw [← EReal.coe_add]; push_cast; rfl

/-- The number result where the least code is the void code. -/
theorem inst_void (e : FVec Ideal S512x512 .f32) (y x : Fin 512) (he : e (ix2 y x) = Cert.Panoptic.void) :
    k0_pay2 (k0_pay132 e) (k0_pay133 e) (k0_pay134 e) (FloatOps.ofBits (F := Ideal) .f32 0x43000000#32) (ix3 0 y x) = BitVec.ofInt 32 (-1) := by
  pointwise [k0_pay2, k0_pay132, k0_pay134, k0_pay133]
  have h1 : ¬ (Cert.Panoptic.void < Ideal.ofBits .f32 0x4AC80000#32) := by rw [c_void]; exact lt_irrefl _
  rw [he, if_neg h1, c_neg1]
  exact fptosi_neg_one

/-- The two results at a pixel, from the least code there. -/
theorem res_of_least (seg e : FVec Ideal S512x512 .f32) (y x : Fin 512) {k : ℕ} (hk : k < 54) (hs : seg (ix2 y x) = ((k : ℝ) : EReal))
    {P : ℕ → Prop} {s : ℕ → EReal} {cls : ℕ → ℕ} {q : ℕ → EReal}
    (h : Least q 25 (e (ix2 y x))) (hP : ∀ d, P d → d < 100 ∧ thr < s d)
    (hq : ∀ d, d < 100 → (P d → q d = ((encN s cls d : ℝ) : EReal)) ∧ (¬P d → q d = Cert.Panoptic.void))
    (hcls : ∀ d, d < 100 → cls d ≤ 511) (hpad : ∀ e, 100 ≤ e → e < 128 → s e < thr) :
    Res P s cls k (k0_pay1 seg (k0_pay132 e) (k0_pay134 e) (ix3 0 y x))
      (k0_pay2 (k0_pay132 e) (k0_pay133 e) (k0_pay134 e) (FloatOps.ofBits (F := Ideal) .f32 0x43000000#32) (ix3 0 y x)) := by
  refine ⟨fun o v ho => ?_, fun hn => ?_⟩
  · obtain ⟨h1, h2⟩ := h.eq_enc ho hP hq hcls hpad
    have ho' := (hP o ho.mem).1
    exact ⟨cat_found seg e y x h2 (hcls o ho') (by omega) rfl h1, inst_found e y x h2 (hcls o ho') (by omega) rfl h1⟩
  · have h1 := h.eq_void hn fun d hd => (hq d hd).2
    exact ⟨cat_void seg e y x hk h1 hs, inst_void e y x h1⟩

/-- The channel selected at a pixel: the row phases interleaved, the stored columns put back in place by the table. -/
theorem seg_apply (p q s t : FVec Ideal S128x512 .f32) (T : FVec Ideal S512x512 .f32) (y x : Fin 512)
    (hT : ∀ l : Fin 512, T (ix2 l x) = if (l : ℕ) = 128 * ((x : ℕ) % 4) + x / 4 then 1 else 0) :
    k0_pay125 p q s t T (ix2 y x)
      = (if (y : ℕ) % 4 = 0 then p else if (y : ℕ) % 4 = 1 then q else if (y : ℕ) % 4 = 2 then s else t)
          (ix2 ⟨y / 4, by omega⟩ ⟨128 * ((x : ℕ) % 4) + x / 4, by omega⟩) := by
  pointwise [k0_pay125]
  rw [Finset.sum_eq_single (⟨128 * ((x : ℕ) % 4) + x / 4, by omega⟩ : Fin 512)]
  · rw [hT, if_pos rfl, mul_one]
    have h4 : (y : ℕ) % 4 = 0 ∨ (y : ℕ) % 4 = 1 ∨ (y : ℕ) % 4 = 2 ∨ (y : ℕ) % 4 = 3 := by omega
    rcases h4 with h | h | h | h <;> simp [h]
  · intro l _ hl
    have : (l : ℕ) ≠ 128 * ((x : ℕ) % 4) + x / 4 := fun e => hl (Fin.ext e)
    rw [hT, if_neg this, mul_zero]
  · intro h; exact absurd (Finset.mem_univ _) h

end Cert.Panoptic.K

end
-- ==== Proof.KOut.lean ====
/- The kernel's two output blocks at one grid point: what one batch element's blocks of arguments give at a pixel. -/
module

public import proofs.«01_k».proof.Proof.Decode
public import proofs.«01_k».proof.Proof.Gen.KernelIdeal.Value

@[expose] public section

set_option maxRecDepth 16384

noncomputable section

namespace Cert.Panoptic.K

open Idealize.ShloMosaic Idealize.ShloMosaic.TcCoe Idealize.ShloMosaic.Tactic Cert.KernelIdeal Cert.KernelIdeal.Gen Cert.Panoptic

section Point

variable (c : Dev nD) (i : grid0.Coords) (arg1 : Memref sig .tc .vmem S1x128x1 .f32) (harg1 : arg1.IsWhole) (arg2 : Memref sig .tc .vmem S1x1x128 .f32) (harg2 : arg2.IsWhole) (arg3 : Memref sig .tc .vmem S1x128x1 .f32) (harg3 : arg3.IsWhole) (arg4 : Memref sig .tc .vmem S1x128x28x28 .f32) (harg4 : arg4.IsWhole) (arg5 : Memref sig .tc .vmem S1x54x128x128 .f32) (harg5 : arg5.IsWhole) (arg6 : Memref sig .tc .vmem S512x512 .f32) (harg6 : arg6.IsWhole) (arg7 : Memref sig .tc .smem S2x128 .f32) (harg7 : arg7.IsWhole) (arg8 : Memref sig .tc .smem S2x128x4 .i32) (harg8 : arg8.IsWhole) (arg9 : Memref sig .tc .vmem S1x512x512 .i32) (harg9 : arg9.IsWhole) (arg10 : Memref sig .tc .vmem S1x512x512 .i32) (harg10 : arg10.IsWhole) (arg11 : Memref sig .tc .vmem S128x1 .f32) (harg11 : arg11.IsWhole)
  (x0 : FVec Ideal S1x128x1 .f32) (x1 : FVec Ideal S1x1x128 .f32) (x2 : FVec Ideal S1x128x1 .f32) (x3 : FVec Ideal S1x128x28x28 .f32) (x4 : FVec Ideal S1x54x128x128 .f32) (x5 : FVec Ideal S512x512 .f32) (x6 : FVec Ideal S2x128 .f32) (x7 : IVec S2x128x4 32)

/-- The stored codes, as the scratch buffer holds them. -/
def xeK : BufTy.Contents (Elt Ideal) arg11.view.ty :=
  arg11.view.writes (Elt Ideal) arg11.view.junk [⟨Rect.unit ![0, 0] S128x1.size inb_S128x1_S128x1_0_0,
    k0_pay88 (View.readAt (Elt Ideal) arg1.view (Rect.unit ![0, 0, 0] S1x128x1.size inb_S1x128x1_S1x128x1_0_0_0).toLoadRect (harg1.unread x0))
      (View.readAt (Elt Ideal) arg2.view (Rect.unit ![0, 0, 0] S1x1x128.size inb_S1x1x128_S1x1x128_0_0_0).toLoadRect (harg2.unread x1))
      (View.readAt (Elt Ideal) arg3.view (Rect.unit ![0, 0, 0] S1x128x1.size inb_S1x128x1_S1x128x1_0_0_0).toLoadRect (harg3.unread x2))⟩]

/-- What the first loop leaves. -/
def s1K : St :=
  st_k0_t1 (F := Ideal) Variants.none c none i arg1 harg1 arg2 harg2 arg3 harg3 arg4 harg4 arg5 harg5 arg6 harg6 arg7 harg7 arg8 harg8 arg9 harg9 arg10 harg10 arg11 harg11 (BitVec.ofNat 32 ↑(i 0)) k0_pay89 k0_pay90 k0_pay91 (harg5.unread x4)
    (k0_pay89, k0_pay90, k0_pay91, k0_pay92, k0_pay93, k0_pay94, k0_pay95, k0_pay96) (Scf.trips k0_t1_loop.lb k0_t1_loop.ub k0_t1_loop.st)

/-- What the second loop leaves. -/
def eK : FVec Ideal S512x512 .f32 :=
  st_k0_t2 (F := Ideal) Variants.none c none i arg1 harg1 arg2 harg2 arg3 harg3 arg4 harg4 arg5 harg5 arg6 harg6 arg7 harg7 arg8 harg8 arg9 harg9 arg10 harg10 arg11 harg11 (BitVec.ofNat 32 ↑(i 0)) k0_pay89 k0_pay90 k0_pay91 (harg4.unread x3) (harg8.unread x7)
    (xeK arg1 harg1 arg2 harg2 arg3 harg3 arg11 x0 x1 x2) k0_pay130 (Scf.trips k0_t2_loop.lb k0_t2_loop.ub k0_t2_loop.st)

/-- The channel selected at every pixel. -/
def segK : FVec Ideal S512x512 .f32 :=
  k0_pay125 (s1K c i arg1 harg1 arg2 harg2 arg3 harg3 arg4 harg4 arg5 harg5 arg6 harg6 arg7 harg7 arg8 harg8 arg9 harg9 arg10 harg10 arg11 harg11 x4).2.2.2.2.1 (s1K c i arg1 harg1 arg2 harg2 arg3 harg3 arg4 harg4 arg5 harg5 arg6 harg6 arg7 harg7 arg8 harg8 arg9 harg9 arg10 harg10 arg11 harg11 x4).2.2.2.2.2.1 (s1K c i arg1 harg1 arg2 harg2 arg3 harg3 arg4 harg4 arg5 harg5 arg6 harg6 arg7 harg7 arg8 harg8 arg9 harg9 arg10 harg10 arg11 harg11 x4).2.2.2.2.2.2.1 (s1K c i arg1 harg1 arg2 harg2 arg3 harg3 arg4 harg4 arg5 harg5 arg6 harg6 arg7 harg7 arg8 harg8 arg9 harg9 arg10 harg10 arg11 harg11 x4).2.2.2.2.2.2.2
    (View.readAt (Elt Ideal) arg6.view (Rect.unit ![0, 0] S512x512.size inb_S512x512_S512x512_0_0).toLoadRect (harg6.unread x5))

/-- The zero offset of two coordinates. -/
theorem z2 : (![0, 0] : Fin 2 → ℕ) = fun _ => 0 := by funext a; fin_cases a <;> rfl
/-- The zero offset of three coordinates. -/
theorem z3 : (![0, 0, 0] : Fin 3 → ℕ) = fun _ => 0 := by funext a; fin_cases a <;> rfl

/-- A rectangle of the whole shape holds every index. -/
theorem mem_unit_zero {S : Shape} {off : Fin S.rank → ℕ} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store through a rectangle of the whole shape reads back as what was stored. -/
theorem read_full {κ : Kind} {sp : Space} {S : Shape} {e : EltTy} (v : View sig κ sp S e) (f : v.ty.Contents (Elt Ideal)) {off : Fin S.rank → ℕ}
    (h : off = fun _ => 0) (inb : ∀ a, off a + S.size a ≤ S.size a) (w : S.Idx → Elt Ideal e) :
    v.read (Elt Ideal) (v.writes (Elt Ideal) f [(⟨Rect.unit off S.size inb, w⟩ : View.Piece (Elt Ideal) S e)]) = w := by
  have hc : ∀ y, ∃ p ∈ [(⟨Rect.unit off S.size inb, w⟩ : View.Piece (Elt Ideal) S e)], y ∈ p.1.set := fun y =>
    ⟨_, List.mem_singleton_self _, mem_unit_zero h inb y⟩
  rw [View.read_writes_eq_canon _ _ _ hc, View.canon_unit_zero h]

/-- The first output's block. -/
theorem out8_eq : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7
    = k0_pay1 (segK c i arg1 harg1 arg2 harg2 arg3 harg3 arg4 harg4 arg5 harg5 arg6 harg6 arg7 harg7 arg8 harg8 arg9 harg9 arg10 harg10 arg11 harg11 x4 x5) (k0_pay132 (eK c i arg1 harg1 arg2 harg2 arg3 harg3 arg4 harg4 arg5 harg5 arg6 harg6 arg7 harg7 arg8 harg8 arg9 harg9 arg10 harg10 arg11 harg11 x0 x1 x2 x3 x7)) (k0_pay134 (eK c i arg1 harg1 arg2 harg2 arg3 harg3 arg4 harg4 arg5 harg5 arg6 harg6 arg7 harg7 arg8 harg8 arg9 harg9 arg10 harg10 arg11 harg11 x0 x1 x2 x3 x7)) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7)]
  have h : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).1
      = [⟨Rect.unit ![0, 0, 0] S1x512x512.size inb_S1x512x512_S1x512x512_0_0_0,
          k0_pay1 (segK c i arg1 harg1 arg2 harg2 arg3 harg3 arg4 harg4 arg5 harg5 arg6 harg6 arg7 harg7 arg8 harg8 arg9 harg9 arg10 harg10 arg11 harg11 x4 x5) (k0_pay132 (eK c i arg1 harg1 arg2 harg2 arg3 harg3 arg4 harg4 arg5 harg5 arg6 harg6 arg7 harg7 arg8 harg8 arg9 harg9 arg10 harg10 arg11 harg11 x0 x1 x2 x3 x7)) (k0_pay134 (eK c i arg1 harg1 arg2 harg2 arg3 harg3 arg4 harg4 arg5 harg5 arg6 harg6 arg7 harg7 arg8 harg8 arg9 harg9 arg10 harg10 arg11 harg11 x0 x1 x2 x3 x7))⟩] := by
    unfold kernelRun0_A
    dsimp only
    sl_unfold_words
    rfl
  rw [h, View.canon_unit_zero (S := S1x512x512) z3]

/-- The second output's block. -/
theorem out9_eq : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7
    = k0_pay2 (k0_pay132 (eK c i arg1 harg1 arg2 harg2 arg3 harg3 arg4 harg4 arg5 harg5 arg6 harg6 arg7 harg7 arg8 harg8 arg9 harg9 arg10 harg10 arg11 harg11 x0 x1 x2 x3 x7)) (k0_pay133 (eK c i arg1 harg1 arg2 harg2 arg3 harg3 arg4 harg4 arg5 harg5 arg6 harg6 arg7 harg7 arg8 harg8 arg9 harg9 arg10 harg10 arg11 harg11 x0 x1 x2 x3 x7)) (k0_pay134 (eK c i arg1 harg1 arg2 harg2 arg3 harg3 arg4 harg4 arg5 harg5 arg6 harg6 arg7 harg7 arg8 harg8 arg9 harg9 arg10 harg10 arg11 harg11 x0 x1 x2 x3 x7))
        (FloatOps.ofBits (F := Ideal) .f32 0x43000000#32) := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7)]
  have h : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7).2.1
      = [⟨Rect.unit ![0, 0, 0] S1x512x512.size inb_S1x512x512_S1x512x512_0_0_0,
          k0_pay2 (k0_pay132 (eK c i arg1 harg1 arg2 harg2 arg3 harg3 arg4 harg4 arg5 harg5 arg6 harg6 arg7 harg7 arg8 harg8 arg9 harg9 arg10 harg10 arg11 harg11 x0 x1 x2 x3 x7)) (k0_pay133 (eK c i arg1 harg1 arg2 harg2 arg3 harg3 arg4 harg4 arg5 harg5 arg6 harg6 arg7 harg7 arg8 harg8 arg9 harg9 arg10 harg10 arg11 harg11 x0 x1 x2 x3 x7)) (k0_pay134 (eK c i arg1 harg1 arg2 harg2 arg3 harg3 arg4 harg4 arg5 harg5 arg6 harg6 arg7 harg7 arg8 harg8 arg9 harg9 arg10 harg10 arg11 harg11 x0 x1 x2 x3 x7))
            (FloatOps.ofBits (F := Ideal) .f32 0x43000000#32)⟩] := by
    unfold kernelRun0_A
    dsimp only
    sl_unfold_words
    rfl
  rw [h, View.canon_unit_zero (S := S1x512x512) z3]

/-- The scratch buffer's contents, read back. -/
theorem xeK_read : arg11.view.read (Elt Ideal) (xeK arg1 harg1 arg2 harg2 arg3 harg3 arg11 x0 x1 x2) = k0_pay88 (F := Ideal) x0 x1 x2 := by
  unfold xeK
  rw [read_full (S := S128x1) _ _ z2]
  have e1 : View.readAt (Elt Ideal) arg1.view (Rect.unit ![0, 0, 0] S1x128x1.size inb_S1x128x1_S1x128x1_0_0_0).toLoadRect (harg1.unread x0) = x0 := by
    rw [View.readAt_eq_ld, harg1.read_unread, View.ld_unit_zero (S := S1x128x1) z3]
  have e2 : View.readAt (Elt Ideal) arg2.view (Rect.unit ![0, 0, 0] S1x1x128.size inb_S1x1x128_S1x1x128_0_0_0).toLoadRect (harg2.unread x1) = x1 := by
    rw [View.readAt_eq_ld, harg2.read_unread, View.ld_unit_zero (S := S1x1x128) z3]
  have e3 : View.readAt (Elt Ideal) arg3.view (Rect.unit ![0, 0, 0] S1x128x1.size inb_S1x128x1_S1x128x1_0_0_0).toLoadRect (harg3.unread x2) = x2 := by
    rw [View.readAt_eq_ld, harg3.read_unread, View.ld_unit_zero (S := S1x128x1) z3]
  rw [e1, e2, e3]

/-- At every pixel the second loop's value is the least of the detections' contributions. -/
theorem eK_least (b : Fin 2) (hb : i 0 = b) (y x : Fin 512) :
    Least (fun d => detQ x3 x7 b (k0_pay88 x0 x1 x2) d (ix2 y x)) 25 (eK c i arg1 harg1 arg2 harg2 arg3 harg3 arg4 harg4 arg5 harg5 arg6 harg6 arg7 harg7 arg8 harg8 arg9 harg9 arg10 harg10 arg11 harg11 x0 x1 x2 x3 x7 (ix2 y x)) := by
  have ht : Scf.trips k0_t2_loop.lb k0_t2_loop.ub k0_t2_loop.st = 25 := by decide
  unfold eK
  rw [ht]
  refine st2_iter Variants.none c none i arg1 harg1 arg2 harg2 arg3 harg3 arg4 harg4 arg5 harg5 arg6 harg6 arg7 harg7 arg8 harg8 arg9 harg9 arg10 harg10 arg11 harg11 x3 x7 _ (k0_pay88 x0 x1 x2) (xeK_read ..) b hb _ _ _ _
    (fun n s => Least (fun d => detQ x3 x7 b (k0_pay88 x0 x1 x2) d (ix2 y x)) n (s (ix2 y x))) ?_ ?_ 25 le_rfl
  · have : k0_pay130 (F := Ideal) (ix2 y x) = Cert.Panoptic.void := c_void
    change Least _ 0 (k0_pay130 (F := Ideal) (ix2 y x))
    rw [this]; exact least_zero _
  · intro n s hn h
    exact h.trip hn

/-- The running search's state after the first loop. -/
theorem s1K_inv : Inv1 x4 14 (s1K c i arg1 harg1 arg2 harg2 arg3 harg3 arg4 harg4 arg5 harg5 arg6 harg6 arg7 harg7 arg8 harg8 arg9 harg9 arg10 harg10 arg11 harg11 x4) := by
  have ht : Scf.trips k0_t1_loop.lb k0_t1_loop.ub k0_t1_loop.st = 14 := by decide
  unfold s1K
  rw [ht]
  exact st1_iter Variants.none c none i arg1 harg1 arg2 harg2 arg3 harg3 arg4 harg4 arg5 harg5 arg6 harg6 arg7 harg7 arg8 harg8 arg9 harg9 arg10 harg10 arg11 harg11 x4 _ _ _ _ _ (Inv1 x4) (inv1_zero x4) (fun n s hn h => inv1_step x4 n s hn h) 14 le_rfl

/-- The channel selected at a pixel is the first greatest of the upsampled channels. -/
theorem segK_apply (y x : Fin 512)
    (hT : ∀ l : Fin 512, x5 (ix2 l x) = if (l : ℕ) = 128 * ((x : ℕ) % 4) + x / 4 then 1 else 0) :
    ∃ (k : ℕ) (v : EReal), segK c i arg1 harg1 arg2 harg2 arg3 harg3 arg4 harg4 arg5 harg5 arg6 harg6 arg7 harg7 arg8 harg8 arg9 harg9 arg10 harg10 arg11 harg11 x4 x5 (ix2 y x) = ((k : ℝ) : EReal)
      ∧ FirstMax (fun n => n < 54) (fun ch => up (fun r => up (fun cc => at2 (chanB x4 ch) r cc) x) y) v k := by
  have hi := s1K_inv c i arg1 harg1 arg2 harg2 arg3 harg3 arg4 harg4 arg5 harg5 arg6 harg6 arg7 harg7 arg8 harg8 arg9 harg9 arg10 harg10 arg11 harg11 x4
  have hr : View.readAt (Elt Ideal) arg6.view (Rect.unit ![0, 0] S512x512.size inb_S512x512_S512x512_0_0).toLoadRect (harg6.unread x5) = x5 := by
    rw [View.readAt_eq_ld, harg6.read_unread, View.ld_unit_zero (S := S512x512) z2]
  unfold segK
  rw [hr, seg_apply _ _ _ _ _ _ _ hT]
  obtain ⟨h0, h1, h2, h3⟩ := hi ⟨y / 4, by omega⟩ ⟨128 * ((x : ℕ) % 4) + x / 4, by omega⟩
  have hx : 4 * ((128 * ((x : ℕ) % 4) + x / 4) % 128) + (128 * ((x : ℕ) % 4) + x / 4) / 128 = x := by
    have a1 : (128 * ((x : ℕ) % 4) + x / 4) % 128 = x / 4 := by omega
    have a2 : (128 * ((x : ℕ) % 4) + x / 4) / 128 = x % 4 := by omega
    rw [a1, a2]; omega
  have hu : ∀ ch p, 4 * ((y : ℕ) / 4) + p = y → rowU (chanB x4 ch) p (y / 4) (128 * ((x : ℕ) % 4) + x / 4)
      = up (fun r => up (fun cc => at2 (chanB x4 ch) r cc) x) y := by
    intro ch p hp
    unfold rowU colU
    rw [hp, hx]
  have fin : ∀ p (v k : EReal), 4 * ((y : ℕ) / 4) + p = y →
      Best (fun ch => rowU (chanB x4 ch) p (y / 4) (128 * ((x : ℕ) % 4) + x / 4)) (min (4 * 14) 54) v k →
      ∃ (n : ℕ) (w : EReal), k = ((n : ℝ) : EReal) ∧ FirstMax (fun n => n < 54) (fun ch => up (fun r => up (fun cc => at2 (chanB x4 ch) r cc) x) y) w n := by
    intro p v k hp h
    obtain ⟨n, hn, -, h'⟩ := h
    have := h' (by norm_num)
    simp only [hu _ p hp] at this
    exact ⟨n, v, hn, this.congr fun k => by norm_num⟩
  have h4 : (y : ℕ) % 4 = 0 ∨ (y : ℕ) % 4 = 1 ∨ (y : ℕ) % 4 = 2 ∨ (y : ℕ) % 4 = 3 := by omega
  rcases h4 with h | h | h | h
  · rw [if_pos h]; exact fin 0 _ _ (by omega) h0
  · rw [if_neg (by omega), if_pos h]; exact fin 1 _ _ (by omega) h1
  · rw [if_neg (by omega), if_neg (by omega), if_pos h]; exact fin 2 _ _ (by omega) h2
  · rw [if_neg (by omega), if_neg (by omega), if_neg (by omega)]; exact fin 3 _ _ (by omega) h3

/-- The detections covering a pixel, in terms of the blocks. -/
def PK (x3 : FVec Ideal S1x128x28x28 .f32) (x7 : IVec S2x128x4 32) (b : Fin 2) (s : ℕ → EReal) (y x d : ℕ) : Prop :=
  (d < 100 ∧ thr < s d) ∧ Cov (fun i j => maskB x3 d (ix4 0 0 i j)) (boxB x7 b d 0).toInt (hiW (boxB x7 b d 2)) (boxB x7 b d 1).toInt (hiW (boxB x7 b d 3)) y x

/-- The two outputs at a pixel. -/
theorem out_res (b : Fin 2) (hb : i 0 = b) (y x : Fin 512) (s : ℕ → EReal) (cls : ℕ → ℕ)
    (h0 : ∀ d : Fin 128, x0 (ix3 0 d 0) = s d) (h1 : ∀ d : Fin 128, x1 (ix3 0 0 d) = s d)
    (h2 : ∀ d : Fin 128, x2 (ix3 0 d 0) = ((cls d : ℝ) : EReal))
    (hcls : ∀ d, d < 100 → cls d ≤ 511) (hpad : ∀ e, 100 ≤ e → e < 128 → s e < thr)
    (hT : ∀ l : Fin 512, x5 (ix2 l x) = if (l : ℕ) = 128 * ((x : ℕ) % 4) + x / 4 then 1 else 0) :
    ∃ (k : ℕ) (v : EReal), FirstMax (fun n => n < 54) (fun ch => up (fun r => up (fun cc => at2 (chanB x4 ch) r cc) x) y) v k
      ∧ Res (PK x3 x7 b s y x) s cls k (out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix3 0 y x)) (out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix3 0 y x)) := by
  classical
  obtain ⟨k, v, hk, hf⟩ := segK_apply c i arg1 harg1 arg2 harg2 arg3 harg3 arg4 harg4 arg5 harg5 arg6 harg6 arg7 harg7 arg8 harg8 arg9 harg9 arg10 harg10 arg11 harg11 x4 x5 y x hT
  refine ⟨k, v, hf, ?_⟩
  rw [out8_eq, out9_eq]
  refine res_of_least _ _ y x hf.mem hk (eK_least c i arg1 harg1 arg2 harg2 arg3 harg3 arg4 harg4 arg5 harg5 arg6 harg6 arg7 harg7 arg8 harg8 arg9 harg9 arg10 harg10 arg11 harg11 x0 x1 x2 x3 x7 b hb y x) (fun d hd => hd.1) (fun d hd => ?_) hcls hpad
  have hq : detQ x3 x7 b (k0_pay88 x0 x1 x2) d (ix2 y x)
      = if Cov (fun i j => maskB x3 d (ix4 0 0 i j)) (boxB x7 b d 0).toInt (hiW (boxB x7 b d 2)) (boxB x7 b d 1).toInt (hiW (boxB x7 b d 3)) y x
        then (if thr < s d then ((encN s cls d : ℝ) : EReal) else Cert.Panoptic.void) else Cert.Panoptic.void := by
    unfold detQ
    rw [detK_apply]
    have he : codeB (k0_pay88 x0 x1 x2) d (ix2 0 0) = if thr < s d then ((encN s cls d : ℝ) : EReal) else Cert.Panoptic.void := by
      unfold codeB
      rw [code_apply x0 x1 x2 s cls h0 h1 h2]
      have : min d 127 = d := by omega
      simp only [this]
    rw [he]; rfl
  unfold PK
  rw [hq]
  constructor
  · rintro ⟨⟨-, ht⟩, hc⟩
    rw [if_pos hc, if_pos ht]
  · intro hn
    by_cases hc : Cov (fun i j => maskB x3 d (ix4 0 0 i j)) (boxB x7 b d 0).toInt (hiW (boxB x7 b d 2)) (boxB x7 b d 1).toInt (hiW (boxB x7 b d 3)) y x
    · rw [if_pos hc, if_neg fun ht => hn ⟨⟨hd, ht⟩, hc⟩]
    · rw [if_neg hc]

end Point

end Cert.Panoptic.K

end
-- ==== Proof.Target.lean ====
/- What both programs compute at a pixel, over one batch element's arguments. -/
module

public import proofs.«01_k».proof.Proof.Decode

@[expose] public section

noncomputable section

namespace Cert.Panoptic

open Idealize.ShloMosaic

/-- The scores of one batch element, minus one beyond the hundred detections. -/
def scoreN (s : Fin 100 → EReal) (d : ℕ) : EReal := if h : d < 100 then s ⟨d, h⟩ else ((-1 : ℝ) : EReal)

/-- Sample `(r, l)` of channel `ch`. -/
def chanN (X : Fin 128 → Fin 128 → Fin 54 → EReal) (ch r l : ℕ) : EReal :=
  if h : r < 128 ∧ l < 128 then X ⟨r, h.1⟩ ⟨l, h.2⟩ ⟨min ch 53, by omega⟩ else 0

/-- A channel upsampled to a pixel. -/
def upN (X : Fin 128 → Fin 128 → Fin 54 → EReal) (y x ch : ℕ) : EReal := up (fun r => up (fun l => chanN X ch r l) x) y

/-- A box side as an integer word. -/
def word (v : EReal) : BitVec 32 := FloatOps.fptosi (F := Ideal) (φ := .f32) 32 v

/-- Detection `d` has score above the threshold and covers the pixel. -/
def Covers (s : Fin 100 → EReal) (bx : Fin 100 → Fin 4 → EReal) (mk : Fin 100 → Fin 28 → Fin 28 → EReal) (y x d : ℕ) : Prop :=
  ∃ h : d < 100, thr < s ⟨d, h⟩ ∧
    Cov (mk ⟨d, h⟩) (word (bx ⟨d, h⟩ 0)).toInt (K.hiW (word (bx ⟨d, h⟩ 2))) (word (bx ⟨d, h⟩ 1)).toInt (K.hiW (word (bx ⟨d, h⟩ 3))) y x

/-- The two results at a pixel of one batch element. -/
def Pixel (s : Fin 100 → EReal) (cls : ℕ → ℕ) (bx : Fin 100 → Fin 4 → EReal) (mk : Fin 100 → Fin 28 → Fin 28 → EReal)
    (X : Fin 128 → Fin 128 → Fin 54 → EReal) (y x : ℕ) (cat inst : BitVec 32) : Prop :=
  ∃ (k : ℕ) (v : EReal), FirstMax (fun n => n < 54) (upN X y x) v k ∧ Res (Covers s bx mk y x) (scoreN s) cls k cat inst

/-- The results at a pixel are determined. -/
theorem Pixel.unique {s : Fin 100 → EReal} {cls : ℕ → ℕ} {bx : Fin 100 → Fin 4 → EReal} {mk : Fin 100 → Fin 28 → Fin 28 → EReal}
    {X : Fin 128 → Fin 128 → Fin 54 → EReal} {y x : ℕ} {c i c' i' : BitVec 32}
    (h : Pixel s cls bx mk X y x c i) (h' : Pixel s cls bx mk X y x c' i') : c = c' ∧ i = i' := by
  obtain ⟨k, v, hk, hr⟩ := h
  obtain ⟨k', v', hk', hr'⟩ := h'
  obtain rfl := hk.unique hk'
  exact hr.unique (n := 100) (fun d hd => hd.1) hr'

end Cert.Panoptic

end
-- ==== Proof.Blocks.lean ====
/- The kernel's blocks of arguments at a grid point, in terms of the argument arrays, and its two final arrays. -/
module

public import proofs.«01_k».proof.Proof.KOut
public import proofs.«01_k».proof.Proof.Target
public import Idealize.ShloMosaic.Lib.Claim
public import Idealize.ShloMosaic.Lib.Pointwise
public import Idealize.ShloMosaic.Lib.Pipeline.ValueKit

@[expose] public section

set_option maxRecDepth 16384

noncomputable section

namespace Cert.Panoptic.K

open Idealize.ShloMosaic Idealize.ShloMosaic.TcCoe Idealize.ShloMosaic.Tactic Cert.KernelIdeal Cert.KernelIdeal.Gen Cert.Panoptic

section Blocks

variable (m : (ℓ : Loc nD τ sig) → Buf (Elt Ideal) ℓ) (c : Dev nD)

/-- The argument arrays. -/
abbrev A0 : FVec Ideal S2x100 .f32 := m ((c : Thread nD τ).loc main_arg0)
abbrev A1 : FVec Ideal S2x100 .f32 := m ((c : Thread nD τ).loc main_arg1)
abbrev A2 : FVec Ideal S2x100x4 .f32 := m ((c : Thread nD τ).loc main_arg2)
abbrev A3 : FVec Ideal S2x100x28x28 .f32 := m ((c : Thread nD τ).loc main_arg3)
abbrev A4 : FVec Ideal S2x128x128x54 .f32 := m ((c : Thread nD τ).loc main_arg4)

/-- The scores, padded, as a column. -/
theorem V5_eq : V m c main_v5 = shapeCast S2x128x1 (pad S2x128 ![0, 0] ![0, 28] ![0, 0] (A0 m c) (constant S_ .f32 0xBF800000#32) pads_S2x100_S2x128_000_0280 h_S_) shapeCasts_S2x128_S2x128x1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The scores, padded, as a row. -/
theorem V6_eq : V m c main_v6 = shapeCast S2x1x128 (pad S2x128 ![0, 0] ![0, 28] ![0, 0] (A0 m c) (constant S_ .f32 0xBF800000#32) pads_S2x100_S2x128_000_0280 h_S_) shapeCasts_S2x128_S2x1x128 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The classes, padded, as a column. -/
theorem V7_eq : V m c main_v7 = shapeCast S2x128x1 (pad S2x128 ![0, 0] ![0, 28] ![0, 0] (A1 m c) (sitofp .f32 (constantI S_ 32 0#32)) pads_S2x100_S2x128_000_0280 h_S_) shapeCasts_S2x128_S2x128x1 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The boxes, padded, as integers. -/
theorem V4_eq : V m c main_v4 = fptosi 32 (pad S2x128x4 ![0, 0, 0] ![0, 28, 0] ![0, 0, 0] (A2 m c) (sitofp .f32 (constantI S_ 32 0#32)) pads_S2x100x4_S2x128x4_000_0280_000 h_S_) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The masks, padded. -/
theorem V3_eq : V m c main_v3 = pad S2x128x28x28 ![0, 0, 0, 0] ![0, 28, 0, 0] ![0, 0, 0, 0] (A3 m c) (sitofp .f32 (constantI S_ 32 0#32)) pads_S2x100x28x28_S2x128x28x28_000_0280_000_000 h_S_ := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The channels first. -/
theorem V8_eq : V m c main_v8 = transpose S2x54x128x128 [0, 3, 1, 2] (A4 m c) transposes_S2x128x128x54_S2x54x128x128_0_3_1_2 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The table of the stored columns' places. -/
theorem V15_eq : V m c main_v15 = uitofp (F := Ideal) .f32 (cmpi .eq
    (broadcastInDim S512x512 ![0, 1] bcast_S512x1_S512x512_0_1 (broadcastInDim S512x1 ![0] bcast_S512_S512x1_0 fun i => lit0 (S512.rowMajor i)))
    (broadcastInDim S512x512 ![0, 1] bcast_S1x512_S512x512_0_1 (broadcastInDim S1x512 ![1] bcast_S512_S1x512_1 (iotaInDim S512 32 0)))) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  rfl

/-- The batch element of a grid point. -/
def bt (t : Fin cfg0.N) : Fin 2 := ⟨t.val, t.isLt⟩

/-- A grid point's coordinate is its batch. -/
theorem bt_coords : ∀ t : Fin cfg0.N, grid0.coords t 0 = bt t := (by decide +kernel : ∀ t : Fin grid0.N, grid0.coords t 0 = ⟨t.val, t.isLt⟩)

/-- Which block of its array each window holds at a grid point. -/
theorem idx : ∀ t : Fin cfg0.N, win0_0.index t = ![t.val, 0, 0] ∧ win0_1.index t = ![t.val, 0, 0] ∧ win0_2.index t = ![t.val, 0, 0]
    ∧ win0_3.index t = ![t.val, 0, 0, 0] ∧ win0_4.index t = ![t.val, 0, 0, 0] ∧ win0_5.index t = ![0, 0] ∧ win0_7.index t = ![0, 0, 0]
    ∧ win0_8.index t = ![t.val, 0, 0] ∧ win0_9.index t = ![t.val, 0, 0] :=
  (by decide +kernel : ∀ t : Fin grid0.N, _)

/-- The scores' block, as a column. -/
theorem blk0 (t : Fin cfg0.N) (d : Fin 128) : (iblk m c 0 t : FVec Ideal S1x128x1 .f32) (ix3 0 d 0) = scoreN (fun d => A0 m c (ix2 (bt t) d)) d := by
  have h : V m c main_v5 (ix3 (bt t) d 0) = scoreN (fun d => A0 m c (ix2 (bt t) d)) d := by
    rw [V5_eq]; pointwise []; rw [c_neg1]; rfl
  rw [← h]
  blk_ext [iblk, bt, idx t]

/-- The scores' block, as a row. -/
theorem blk1 (t : Fin cfg0.N) (d : Fin 128) : (iblk m c 1 t : FVec Ideal S1x1x128 .f32) (ix3 0 0 d) = scoreN (fun d => A0 m c (ix2 (bt t) d)) d := by
  have h : V m c main_v6 (ix3 (bt t) 0 d) = scoreN (fun d => A0 m c (ix2 (bt t) d)) d := by
    rw [V6_eq]; pointwise []; rw [c_neg1]; rfl
  rw [← h]
  blk_ext [iblk, bt, idx t]

/-- The classes' block. -/
theorem blk2 (t : Fin cfg0.N) (d : Fin 128) : (iblk m c 2 t : FVec Ideal S1x128x1 .f32) (ix3 0 d 0)
    = if h : (d : ℕ) < 100 then A1 m c (ix2 (bt t) ⟨d, h⟩) else 0 := by
  have h : V m c main_v7 (ix3 (bt t) d 0) = if h : (d : ℕ) < 100 then A1 m c (ix2 (bt t) ⟨d, h⟩) else 0 := by
    have e0 : FloatOps.sitofp (F := Ideal) .f32 0#32 = 0 := by have := sitofp_nat' (n := 0) (by norm_num); simpa using this
    rw [V7_eq]; pointwise []; rw [e0]
  rw [← h]
  blk_ext [iblk, bt, idx t]

/-- The masks' block. -/
theorem blk3 (t : Fin cfg0.N) (d : Fin 128) (p q : Fin 28) (h : (d : ℕ) < 100) :
    (iblk m c 3 t : FVec Ideal S1x128x28x28 .f32) (ix4 0 d p q) = A3 m c (ix4 (bt t) ⟨d, h⟩ p q) := by
  have h : V m c main_v3 (ix4 (bt t) d p q) = A3 m c (ix4 (bt t) ⟨d, h⟩ p q) := by
    rw [V3_eq]; pointwise []; rw [dif_pos h]
  rw [← h]
  blk_ext [iblk, bt, idx t]

/-- The channels' block. -/
theorem blk4 (t : Fin cfg0.N) (ch : Fin 54) (r l : Fin 128) :
    (iblk m c 4 t : FVec Ideal S1x54x128x128 .f32) (ix4 0 ch r l) = A4 m c (ix4 (bt t) r l ch) := by
  have h : V m c main_v8 (ix4 (bt t) ch r l) = A4 m c (ix4 (bt t) r l ch) := by
    rw [V8_eq]; pointwise []
  rw [← h]
  blk_ext [iblk, bt, idx t]

/-- The table of column positions. -/
theorem lit0_eq : ∀ l : Fin 512, lit0 l = BitVec.ofNat 32 (4 * ((l : ℕ) % 128) + l / 128) := by decide +kernel

/-- The block that permutes the columns. -/
theorem blk5 (t : Fin cfg0.N) (l x : Fin 512) :
    (iblk m c 5 t : FVec Ideal S512x512 .f32) (ix2 l x) = (show EReal from if (l : ℕ) = 128 * ((x : ℕ) % 4) + x / 4 then 1 else 0) := by
  have h : V m c main_v15 (ix2 l x) = (show EReal from if (l : ℕ) = 128 * ((x : ℕ) % 4) + x / 4 then 1 else 0) := by
    rw [V15_eq]; pointwise []
    have e : S512.rowMajor (ix1 l) = l := Fin.ext (Shape.rowMajor_val_one _)
    rw [e, lit0_eq]
    have hl := l.isLt
    have hx := x.isLt
    by_cases hc : (l : ℕ) = 128 * ((x : ℕ) % 4) + x / 4
    · have a1 : (l : ℕ) % 128 = x / 4 := by omega
      have a2 : (l : ℕ) / 128 = x % 4 := by omega
      rw [if_pos hc, a1, a2]
      have : 4 * ((x : ℕ) / 4) + x % 4 = x := by omega
      rw [this]
      have : IntOp.cmpi .eq (BitVec.ofNat 32 (x : ℕ)) (BitVec.ofNat 32 (x : ℕ)) = 1#1 := by simp [IntOp.cmpi]
      rw [this]
      change (((1#1 : BitVec 1).toNat : ℝ) : EReal) = 1
      simp
    · rw [if_neg hc]
      have hne : 4 * ((l : ℕ) % 128) + l / 128 ≠ x := by
        intro h
        obtain ⟨q, hq⟩ : ∃ q, q = (l : ℕ) / 128 := ⟨_, rfl⟩
        obtain ⟨j, hj⟩ : ∃ j, j = (l : ℕ) % 128 := ⟨_, rfl⟩
        rw [← hq, ← hj] at h
        have : (l : ℕ) = 128 * q + j := by omega
        omega
      have : IntOp.cmpi .eq (BitVec.ofNat 32 (4 * ((l : ℕ) % 128) + l / 128)) (BitVec.ofNat 32 (x : ℕ)) = 0#1 := by
        have : BitVec.ofNat 32 (4 * ((l : ℕ) % 128) + l / 128) ≠ BitVec.ofNat 32 (x : ℕ) := by
          intro h
          have := congrArg BitVec.toNat h
          rw [BitVec.toNat_ofNat, BitVec.toNat_ofNat] at this
          rw [Nat.mod_eq_of_lt (show 4 * ((l : ℕ) % 128) + l / 128 < 2 ^ 32 by omega), Nat.mod_eq_of_lt (show (x : ℕ) < 2 ^ 32 by omega)] at this
          exact hne this
        unfold IntOp.cmpi
        change BitVec.ofBool (_ == _) = _
        rw [beq_eq_false_iff_ne.2 this]
        rfl
      rw [this]
      change (((0#1 : BitVec 1).toNat : ℝ) : EReal) = 0
      simp
  rw [← h]
  blk_ext [iblk, bt, idx t]

/-- The boxes' block, as words. -/
theorem blk7 (t : Fin cfg0.N) (b : Fin 2) (d : Fin 128) (q : Fin 4) (h : (d : ℕ) < 100) :
    (iblk m c 7 t : IVec S2x128x4 32) (ix3 b d q) = FloatOps.fptosi (F := Ideal) (φ := .f32) 32 (A2 m c (ix3 b ⟨d, h⟩ q)) := by
  have h : V m c main_v4 (ix3 b d q) = FloatOps.fptosi (F := Ideal) (φ := .f32) 32 (A2 m c (ix3 b ⟨d, h⟩ q)) := by
    rw [V4_eq]; pointwise []; rw [dif_pos h]
  rw [← h]
  blk_ext [iblk, bt, idx t]

/-- The first result is written out at every grid point. -/
theorem flush8 : ∀ t : Fin cfg0.N, (cfg0.win 8).flush t = true := (by decide +kernel : ∀ t : Fin grid0.N, win0_8.flush t = true)

/-- The first final array at one batch element is that grid point's block. -/
theorem arr8 (t : Fin cfg0.N) (y x : Fin 512) : (dats m 0 c).arrAt 8 cfg0.N (ix3 (bt t) y x) = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (ix3 0 y x) := by
  have h := Cert.KernelIdeal.Value.blocks8 m c t (flush8 t)
  rw [Cert.KernelIdeal.Value.flushed8_A] at h
  have h := congrFun h (ix3 0 y x)
  have e : (dats m 0 c).arrAt 8 cfg0.N (ix3 (bt t) y x) = ((cfg0.win 8).blk t).view.read (Elt Ideal) ((dats m 0 c).arrAt 8 cfg0.N) (ix3 0 y x) := by
    blk_ext [bt, idx t]
  rw [e, h]
  rfl

/-- The second result is written out at every grid point. -/
theorem flush9 : ∀ t : Fin cfg0.N, (cfg0.win 9).flush t = true := (by decide +kernel : ∀ t : Fin grid0.N, win0_9.flush t = true)

/-- The second final array at one batch element is that grid point's block. -/
theorem arr9 (t : Fin cfg0.N) (y x : Fin 512) : (dats m 0 c).arrAt 9 cfg0.N (ix3 (bt t) y x) = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (ix3 0 y x) := by
  have h := Cert.KernelIdeal.Value.blocks9 m c t (flush9 t)
  rw [Cert.KernelIdeal.Value.flushed9_A] at h
  have h := congrFun h (ix3 0 y x)
  have e : (dats m 0 c).arrAt 9 cfg0.N (ix3 (bt t) y x) = ((cfg0.win 9).blk t).view.read (Elt Ideal) ((dats m 0 c).arrAt 9 cfg0.N) (ix3 0 y x) := by
    blk_ext [bt, idx t]
  rw [e, h]
  rfl

/-- The kernel's two results at a pixel. -/
theorem kernel_pixel (t : Fin cfg0.N) (y x : Fin 512) (cls : ℕ → ℕ)
    (hc : ∀ d : Fin 100, A1 m c (ix2 (bt t) d) = ((cls d : ℝ) : EReal)) (hcls : ∀ d, d < 100 → cls d ≤ 511) :
    Pixel (fun d => A0 m c (ix2 (bt t) d)) cls (fun d q => A2 m c (ix3 (bt t) d q)) (fun d i j => A3 m c (ix4 (bt t) d i j))
      (fun r l ch => A4 m c (ix4 (bt t) r l ch)) y x
      ((dats m 0 c).arrAt 8 cfg0.N (ix3 (bt t) y x)) ((dats m 0 c).arrAt 9 cfg0.N (ix3 (bt t) y x)) := by
  rw [arr8, arr9]
  have hthr : ∀ e, 100 ≤ e → e < 128 → scoreN (fun d => A0 m c (ix2 (bt t) d)) e < thr := by
    intro e he _
    obtain ⟨r, hr, hr0⟩ := thr_coe
    unfold scoreN
    rw [dif_neg (by omega), hr, EReal.coe_lt_coe_iff]
    linarith
  have h2 : ∀ d : Fin 128, (iblk m c 2 t : FVec Ideal S1x128x1 .f32) (ix3 0 d 0)
      = ((((if (d : ℕ) < 100 then cls d else 0) : ℕ) : ℝ) : EReal) := by
    intro d
    rw [blk2]
    by_cases h : (d : ℕ) < 100
    · rw [dif_pos h, if_pos h]; exact hc ⟨d, h⟩
    · rw [dif_neg h, if_neg h]; simp
  obtain ⟨k, v, hk, hr⟩ := out_res c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t)
    (bt t) (bt_coords t) y x (scoreN fun d => A0 m c (ix2 (bt t) d)) (fun d => if d < 100 then cls d else 0)
    (blk0 m c t) (blk1 m c t) h2 (fun d hd => by simp only [hd, if_true]; exact hcls d hd) hthr (fun l => blk5 m c t l x)
  have hch : ∀ ch < 54, ∀ r l, at2 (chanB (iblk m c 4 t) ch) r l = chanN (fun r l ch => A4 m c (ix4 (bt t) r l ch)) ch r l := by
    intro ch _ r l
    unfold at2 chanN
    by_cases h : r < 128 ∧ l < 128
    · rw [dif_pos h, dif_pos h]
      exact blk4 m c t _ _ _
    · rw [dif_neg h, dif_neg h]
  have hup : ∀ ch < 54, up (fun r => up (fun cc => at2 (chanB (iblk m c 4 t) ch) r cc) x) y = upN (fun r l ch => A4 m c (ix4 (bt t) r l ch)) y x ch := by
    intro ch h
    unfold upN
    simp only [hch ch h]
  have hP : ∀ d, PK (iblk m c 3 t) (iblk m c 7 t) (bt t) (scoreN fun d => A0 m c (ix2 (bt t) d)) y x d
      ↔ Covers (fun d => A0 m c (ix2 (bt t) d)) (fun d q => A2 m c (ix3 (bt t) d q)) (fun d i j => A3 m c (ix4 (bt t) d i j)) y x d := by
    intro d
    unfold PK Covers
    by_cases h : d < 100
    · have e1 : scoreN (fun d => A0 m c (ix2 (bt t) d)) d = A0 m c (ix2 (bt t) ⟨d, h⟩) := by unfold scoreN; rw [dif_pos h]
      have hm : min d 127 = d := by omega
      have e2 : ∀ q, boxB (iblk m c 7 t) (bt t) d q = word (A2 m c (ix3 (bt t) ⟨d, h⟩ q)) := by
        intro q
        unfold boxB
        simp only [hm]
        exact blk7 m c t (bt t) ⟨d, by omega⟩ q h
      have e3 : (fun i j => maskB (iblk m c 3 t) d (ix4 0 0 i j)) = fun i j => A3 m c (ix4 (bt t) ⟨d, h⟩ i j) := by
        funext i j
        unfold maskB
        simp only [hm]
        exact blk3 m c t ⟨d, by omega⟩ i j h
      rw [e1, e2, e2, e2, e2, e3]
      exact ⟨fun ⟨⟨_, a⟩, b⟩ => ⟨h, a, b⟩, fun ⟨_, a, b⟩ => ⟨⟨h, a⟩, b⟩⟩
    · exact ⟨fun ⟨⟨a, _⟩, _⟩ => absurd a h, fun ⟨a, _⟩ => absurd a h⟩
  refine ⟨k, v, ?_, ?_⟩
  · obtain ⟨a, b, cc, d⟩ := hk
    exact ⟨a, b.trans (hup k a), fun j hj => by rw [← hup j hj]; exact cc j hj, fun j hj hlt => by rw [← hup j hj]; exact d j hj hlt⟩
  · have hr := hr.congr hP
    refine ⟨fun o w ho => ?_, hr.void⟩
    obtain ⟨h1, h2⟩ := hr.found o w ho
    have : o < 100 := ho.mem.1
    rw [h1]
    exact ⟨by simp only [this, if_true], h2⟩

end Blocks

end Cert.Panoptic.K

end
-- ==== Proof.Resize.lean ====
/- The reference's two bilinear resizes, read at a pixel: four phases of a source sample and its neighbour. -/
module

public import proofs.«01_k».proof.Proof.Decode
public import proofs.«01_k».proof.Proof.Target
public import proofs.«01_k».proof.Proof.Gen.ReferenceIdeal.Run
public import Idealize.ShloMosaic.Lib.Pointwise

@[expose] public section

set_option maxRecDepth 16384

noncomputable section

namespace Cert.Panoptic.R

open Idealize.ShloMosaic Idealize.ShloMosaic.TcCoe Idealize.ShloMosaic.Tactic Cert.ReferenceIdeal Cert.Panoptic

open Cert.ReferenceIdeal.Value

/-- The triangle kernel: how much source sample `i` weighs at destination `n`, before normalising. -/
def tri (n i : ℕ) : ℝ := max 0 (1 - |((n : ℝ) + 1 / 2) * (1 / 4) - 1 / 2 - i|)

/-- The triangle by its three nonzero places. -/
theorem tri_eq (n i : ℕ) : tri n i = (if i + 1 = n / 4 then (wt (n % 4)).1 else 0)
    + ((if i = n / 4 then (wt (n % 4)).2.1 else 0) + (if i = n / 4 + 1 then (wt (n % 4)).2.2 else 0)) := by
  obtain ⟨q, hq⟩ : ∃ q, n / 4 = q := ⟨_, rfl⟩
  obtain ⟨p, hp⟩ : ∃ p, n % 4 = p := ⟨_, rfl⟩
  have hn : n = 4 * q + p := by omega
  have hp4 : p < 4 := by omega
  rw [hq, hp]
  subst hn
  clear hq hp
  unfold tri
  push_cast
  have key : ((4 * (q : ℝ) + p + 1 / 2) * (1 / 4) - 1 / 2 - i) = ((q : ℝ) - i) + ((p : ℝ) / 4 - 3 / 8) := by ring
  rw [key]
  rcases lt_trichotomy i q with h | h | h
  · by_cases h1 : i + 1 = q
    · have e : (q : ℝ) - i = 1 := by rw [← h1]; push_cast; ring
      rw [e, if_pos h1, if_neg (by omega), if_neg (by omega)]
      interval_cases p <;> norm_num [wt, abs_of_pos, abs_of_nonneg]
    · have e : (2 : ℝ) ≤ (q : ℝ) - i := by
        have : i + 2 ≤ q := by omega
        have : ((i + 2 : ℕ) : ℝ) ≤ q := by exact_mod_cast this
        push_cast at this; linarith
      rw [if_neg h1, if_neg (by omega), if_neg (by omega)]
      have p0 : (0 : ℝ) ≤ p := Nat.cast_nonneg p
      rw [abs_of_nonneg (by linarith), max_eq_left (by linarith)]; norm_num
  · subst h
    rw [if_neg (by omega), if_pos rfl, if_neg (by omega)]
    interval_cases p <;> norm_num [wt, abs_of_pos, abs_of_neg]
  · by_cases h1 : i = q + 1
    · have e : (q : ℝ) - i = -1 := by rw [h1]; push_cast; ring
      rw [e, if_neg (by omega), if_neg (by omega), if_pos h1]
      interval_cases p <;> norm_num [wt, abs_of_neg, abs_of_nonpos]
    · have e : (q : ℝ) - i ≤ -2 := by
        have : q + 2 ≤ i := by omega
        have : ((q + 2 : ℕ) : ℝ) ≤ i := by exact_mod_cast this
        push_cast at this; linarith
      rw [if_neg (by omega), if_neg (by omega), if_neg h1]
      have p3 : (p : ℝ) ≤ 3 := by exact_mod_cast (by omega : p ≤ 3)
      rw [abs_of_nonpos (by linarith), max_eq_left (by linarith)]; norm_num

/-- The total weight at a destination. -/
def tot (n : ℕ) : ℝ := (if 1 ≤ n / 4 then (wt (n % 4)).1 else 0) + ((wt (n % 4)).2.1 + (if n / 4 + 1 < 128 then (wt (n % 4)).2.2 else 0))

/-- The triangle sums to the total weight. -/
theorem sum_tri {n : ℕ} (hn : n < 512) : ∑ i : Fin 128, tri n i = tot n := by
  have hs : ∀ (w : ℝ) (k : ℕ), (∑ i : Fin 128, if (i : ℕ) = k then w else 0) = if k < 128 then w else 0 := by
    intro w k
    by_cases hk : k < 128
    · rw [if_pos hk, Finset.sum_eq_single (⟨k, hk⟩ : Fin 128)]
      · simp
      · intro b _ hb; rw [if_neg (fun h => hb (Fin.ext h))]
      · intro h; exact absurd (Finset.mem_univ _) h
    · rw [if_neg hk]; exact Finset.sum_eq_zero fun i _ => if_neg (by omega)
  have hs1 : ∀ (w : ℝ) (k : ℕ), k ≤ 128 → (∑ i : Fin 128, if (i : ℕ) + 1 = k then w else 0) = if 1 ≤ k then w else 0 := by
    intro w k hk
    by_cases h : 1 ≤ k
    · rw [if_pos h]
      have := hs w (k - 1)
      rw [if_pos (by omega)] at this
      rw [← this]
      exact Finset.sum_congr rfl fun i _ => by congr 1; exact propext (by omega)
    · rw [if_neg h]; exact Finset.sum_eq_zero fun i _ => if_neg (by omega)
  simp only [tri_eq, Finset.sum_add_distrib]
  rw [hs, hs, hs1 _ _ (by omega), if_pos (show n / 4 < 128 by omega)]
  rfl

/-- The total weight is at least five eighths. -/
theorem tot_ge (n : ℕ) : 5 / 8 ≤ tot n := by
  unfold tot
  have : n % 4 < 4 := by omega
  generalize n % 4 = p at *
  interval_cases p <;> simp only [wt] <;> split_ifs <;> norm_num

/-- Normalised, the triangle is the weight of the upsampling. -/
theorem tri_div {n i : ℕ} (hn : n < 512) (hi : i < 128) : tri n i * (1 / tot n) = wgt n i := by
  rw [tri_eq]
  unfold tot wgt
  obtain ⟨q, hq⟩ : ∃ q, n / 4 = q := ⟨_, rfl⟩
  have hq' : q < 128 := by omega
  have hp : n % 4 < 4 := by omega
  rw [hq]
  generalize n % 4 = p at *
  by_cases h0 : q = 0
  · subst h0
    rcases Nat.lt_trichotomy i 1 with h | h | h
    · obtain rfl : i = 0 := by omega
      interval_cases p <;> norm_num [wt]
    · subst h
      interval_cases p <;> norm_num [wt]
    · simp [show i ≠ 0 by omega, show i ≠ 1 by omega]
  · by_cases h1 : q = 127
    · subst h1
      rcases Nat.lt_trichotomy i 126 with h | h | h
      · simp [show i + 1 ≠ 127 by omega, show i ≠ 126 by omega, show i ≠ 127 by omega, show i ≠ 128 by omega]
      · subst h
        interval_cases p <;> norm_num [wt]
      · obtain rfl : i = 127 := by omega
        interval_cases p <;> norm_num [wt]
    · have e1 : (i = q - 1) ↔ i + 1 = q := by omega
      have e2 : (min (q + 1) 127) = q + 1 := by omega
      have t : (if 1 ≤ q then (wt p).1 else 0) + ((wt p).2.1 + (if q + 1 < 128 then (wt p).2.2 else 0)) = 1 := by
        rw [if_pos (by omega), if_pos (by omega)]
        interval_cases p <;> norm_num [wt]
      rw [t, e2]
      simp only [e1]
      norm_num

/-- The value of this constant. -/
theorem c_quarter : Ideal.ofBits .f32 0x3E800000#32 = ((1 / 4 : ℝ) : EReal) := by
  simp [Ideal.ofBits, Ideal.ieee, -EReal.coe_mul]; norm_num
/-- The value of this constant. -/
theorem c_neghalf : Ideal.ofBits .f32 0xBF000000#32 = ((-(1 / 2) : ℝ) : EReal) := by
  simp [Ideal.ofBits, Ideal.ieee, -EReal.coe_mul, -EReal.coe_neg]; norm_num
/-- The value of this constant. -/
theorem c_end : Ideal.ofBits .f32 0x42FF0000#32 = ((255 / 2 : ℝ) : EReal) := by
  simp [Ideal.ofBits, Ideal.ieee, -EReal.coe_mul]; norm_num
/-- The resize's least weight is small. -/
theorem c_tiny : ∃ t : ℝ, Ideal.ofBits .f32 0x38FA0000#32 = (t : EReal) ∧ t < 5 / 8 := by
  refine ⟨16384000 / 137438953472, ?_, by norm_num⟩
  simp [Ideal.ofBits, Ideal.ieee, -EReal.coe_mul]; norm_num

/-- The absolute value of a real. -/
theorem absf_coe (x : ℝ) : FloatOps.absf (F := Ideal) (φ := .f32) (x : EReal) = ((|x| : ℝ) : EReal) := by
  change max (x : EReal) (-(x : EReal)) = _
  rw [← EReal.coe_neg, K.coe_max]; rfl

/-- A sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Sums of equal extended reals. -/
theorem esum_congr {n : ℕ} {f g : Fin n → EReal} (h : ∀ i, f i = g i) : ∑ i, f i = ∑ i, g i := Finset.sum_congr rfl fun i _ => h i

/-- The place a destination samples. -/
def src (n : ℕ) : ℝ := ((n : ℝ) + 1 / 2) * (1 / 4) - 1 / 2

variable (V : Valuation τ sig (Elt Ideal))

/-- The sample position. -/
theorem pos0 (n : Fin 512) : res_main_call0_v8 V (ix1 n) = (show EReal from ((src n : ℝ) : EReal)) := by
  pointwise [res_main_call0_v8]
  rw [K.sitofp_nat' (by omega), K.c_half, c_quarter, ← EReal.coe_add, ← EReal.coe_mul, ← EReal.coe_sub]
  rfl

/-- The triangle kernel's entry. -/
theorem tri0 (n : Fin 512) (i : Fin 128) : res_main_call0_v22 V (ix2 i n) = (show EReal from ((tri n i : ℝ) : EReal)) := by
  have h1 : (1 : EReal) = ((1 : ℝ) : EReal) := rfl
  have h0 : (0 : EReal) = ((0 : ℝ) : EReal) := rfl
  pointwise [res_main_call0_v22]
  have e := pos0 V n
  rw [e, K.sitofp_nat' (by omega)]
  change max 0 (1 - FloatOps.absf (F := Ideal) (φ := .f32) (Ideal.div (FloatOps.absf (F := Ideal) (φ := .f32) (((src n : ℝ) : EReal) - (((i : ℕ) : ℝ) : EReal))) 1)) = _
  rw [← EReal.coe_sub, absf_coe, h1, Ideal.div_coe one_ne_zero, ← EReal.coe_mul, absf_coe, ← EReal.coe_sub, h0, K.coe_max]
  unfold tri src
  norm_num

/-- The triangle's sum. -/
theorem sum0 (n : Fin 512) : res_main_call0_v24 V (ix2 0 n) = (show EReal from ((tot n : ℝ) : EReal)) := by
  pointwise [res_main_call0_v24]
  rw [← sum_tri n.isLt]
  exact (esum_congr fun i => tri0 V n i).trans (coe_sum _ _)

/-- The sample position. -/
theorem pos1 (n : Fin 512) : res_main_call1_v8 V (ix1 n) = (show EReal from ((src n : ℝ) : EReal)) := by
  pointwise [res_main_call1_v8]
  rw [K.sitofp_nat' (by omega), K.c_half, c_quarter, ← EReal.coe_add, ← EReal.coe_mul, ← EReal.coe_sub]
  rfl

/-- The triangle kernel's entry. -/
theorem tri1 (n : Fin 512) (i : Fin 128) : res_main_call1_v22 V (ix2 i n) = (show EReal from ((tri n i : ℝ) : EReal)) := by
  have h1 : (1 : EReal) = ((1 : ℝ) : EReal) := rfl
  have h0 : (0 : EReal) = ((0 : ℝ) : EReal) := rfl
  pointwise [res_main_call1_v22]
  have e := pos1 V n
  rw [e, K.sitofp_nat' (by omega)]
  change max 0 (1 - FloatOps.absf (F := Ideal) (φ := .f32) (Ideal.div (FloatOps.absf (F := Ideal) (φ := .f32) (((src n : ℝ) : EReal) - (((i : ℕ) : ℝ) : EReal))) 1)) = _
  rw [← EReal.coe_sub, absf_coe, h1, Ideal.div_coe one_ne_zero, ← EReal.coe_mul, absf_coe, ← EReal.coe_sub, h0, K.coe_max]
  unfold tri src
  norm_num

/-- The triangle's sum. -/
theorem sum1 (n : Fin 512) : res_main_call1_v24 V (ix2 0 n) = (show EReal from ((tot n : ℝ) : EReal)) := by
  pointwise [res_main_call1_v24]
  rw [← sum_tri n.isLt]
  exact (esum_congr fun i => tri1 V n i).trans (coe_sum _ _)

/-- The normalised weight, with its guards, is the weight of the upsampling. -/
theorem weight_eq {p s t : EReal} {n i : ℕ} (hn : n < 512) (hi : i < 128) (hp : p = ((src n : ℝ) : EReal)) (hs : s = ((tot n : ℝ) : EReal))
    (ht : t = ((tri n i : ℝ) : EReal)) :
    Scalar.select
      (IntOp.andi (BitVec.ofBool (decide (Ideal.ofBits FTy.f32 3204448256#32 ≤ p)))
        (BitVec.ofBool (decide (p ≤ Ideal.ofBits FTy.f32 1124007936#32))))
      (if Ideal.ofBits FTy.f32 955908096#32 < FloatOps.absf (F := Ideal) (φ := .f32) s then
        Ideal.div t (if s ≠ 0 then s else FloatOps.sitofp (F := Ideal) FTy.f32 1#32)
      else FloatOps.sitofp (F := Ideal) FTy.f32 0#32)
      (FloatOps.sitofp (F := Ideal) FTy.f32 0#32) = ((wgt n i : ℝ) : EReal) := by
  obtain ⟨z, hz, hz'⟩ := c_tiny
  have hT := tot_ge n
  have hT0 : tot n ≠ 0 := by linarith
  have n0 : (0 : ℝ) ≤ n := Nat.cast_nonneg n
  have n1 : (n : ℝ) ≤ 511 := by exact_mod_cast (by omega : n ≤ 511)
  have a1 : Ideal.ofBits FTy.f32 3204448256#32 ≤ p := by
    rw [c_neghalf, hp, EReal.coe_le_coe_iff]; unfold src; linarith
  have a2 : p ≤ Ideal.ofBits FTy.f32 1124007936#32 := by
    rw [c_end, hp, EReal.coe_le_coe_iff]; unfold src; linarith
  have a3 : Ideal.ofBits FTy.f32 955908096#32 < FloatOps.absf (F := Ideal) (φ := .f32) s := by
    rw [hz, hs, absf_coe, EReal.coe_lt_coe_iff, abs_of_pos (by linarith)]; linarith
  have a4 : s ≠ 0 := by
    rw [hs]; exact_mod_cast hT0
  rw [decide_eq_true a1, decide_eq_true a2, if_pos a3, if_pos a4, ht, hs, Ideal.div_coe hT0, ← EReal.coe_mul, tri_div hn hi]
  rfl

/-- The resized array: every channel upsampled. -/
theorem resized (b : Fin 2) (y x : Fin 512) (ch : Fin 54) :
    res_main_v2 V (ix4 b y x ch) = upN (fun r l ch => V (Proc.tc.devRef main_arg4) (ix4 b r l ch)) y x ch := by
  have h : upN (fun r l ch => V (Proc.tc.devRef main_arg4) (ix4 b r l ch)) y x ch
      = ∑ l : Fin 128, ((wgt x l : ℝ) : EReal) * ∑ r : Fin 128, ((wgt y r : ℝ) : EReal) * V (Proc.tc.devRef main_arg4) (ix4 b r l ch) := by
    unfold upN
    rw [up_comm, up_eq_sum _ x.isLt]
    refine Finset.sum_congr rfl fun l _ => ?_
    rw [up_eq_sum _ y.isLt]
    congr 1
    refine Finset.sum_congr rfl fun r _ => ?_
    congr 1
    unfold chanN
    rw [dif_pos ⟨r.isLt, l.isLt⟩]
    have : (⟨min (ch : ℕ) 53, by omega⟩ : Fin 54) = ch := Fin.ext (show min (ch : ℕ) 53 = ch by omega)
    exact congrArg (fun c => (show EReal from V (Proc.tc.devRef main_arg4) (ix4 b r l c))) this
  rw [h]
  pointwise [res_main_v2]
  exact esum_congr fun l => congrArg₂ _ (weight_eq x.isLt l.isLt (pos1 V x) (sum1 V x) (tri1 V x l))
    (esum_congr fun r => congrArg₂ _ (weight_eq y.isLt r.isLt (pos0 V y) (sum0 V y) (tri0 V y r)) rfl)

end Cert.Panoptic.R

end
-- ==== Proof.First.lean ====
/- The reference's first greatest index: the least index at which a family reaches its greatest value. -/
module

public import proofs.«01_k».proof.Proof.Decode
public import proofs.«01_k».proof.Proof.Target
public import proofs.«01_k».proof.Proof.Gen.ReferenceIdeal.Run
public import Idealize.ShloMosaic.Lib.Pointwise

@[expose] public section

set_option maxRecDepth 16384

noncomputable section

namespace Cert.Panoptic.R

open Idealize.ShloMosaic Idealize.ShloMosaic.TcCoe Idealize.ShloMosaic.Tactic Cert.ReferenceIdeal Cert.Panoptic

open Cert.ReferenceIdeal.Value

/-- The least word of a family of small numbers. -/
theorem fold_minsi {n : ℕ} (g : Fin n → BitVec 32) (h : Fin n → ℕ) (hh : ∀ i, h i < 2 ^ 31) (hg : ∀ i, g i = BitVec.ofNat 32 (h i)) (s : Finset (Fin n)) :
    s.fold IntOp.minsi 2147483647#32 g = BitVec.ofNat 32 (s.fold min 2147483647 h) ∧ s.fold min 2147483647 h ≤ 2147483647 := by
  classical
  induction s using Finset.induction_on with
  | empty => simp
  | insert a s ha ih =>
    rw [Finset.fold_insert ha, Finset.fold_insert ha, ih.1, hg]
    refine ⟨?_, (min_le_right _ _).trans ih.2⟩
    have h1 := hh a
    have h2 := ih.2
    generalize s.fold min 2147483647 h = q at *
    generalize h a = p at *
    have t : ∀ k : ℕ, k < 2 ^ 31 → (BitVec.ofNat 32 k).toInt = k := by
      intro k hk
      simp only [BitVec.toInt_ofNat', Int.bmod_def]
      omega
    apply BitVec.eq_of_toInt_eq
    unfold IntOp.minsi
    rw [t (min p q) (by omega)]
    have c : (BitVec.ofNat 32 p).slt (BitVec.ofNat 32 q) = decide (p < q) := by
      rw [BitVec.slt_eq_decide, t p h1, t q (by omega)]; simp
    rw [c]
    by_cases c : p < q
    · rw [decide_eq_true c, if_pos rfl, t p h1, min_eq_left c.le]
    · rw [decide_eq_false c, if_neg (by decide), t q (by omega), min_eq_right (by omega)]

/-- The least of the indices at which the greatest value is taken is the first greatest index. -/
theorem fold_first {n : ℕ} (hn : 0 < n) (hn' : n < 2 ^ 31) (f : Fin n → EReal) (u : ℕ → EReal) (hu : ∀ i : Fin n, f i = u i)
    (g : Fin n → BitVec 32) (h1 : ∀ i, f i = (Finset.univ : Finset (Fin n)).fold max ⊥ f → g i = BitVec.ofNat 32 (i : ℕ))
    (h2 : ∀ i, f i ≠ (Finset.univ : Finset (Fin n)).fold max ⊥ f → g i = BitVec.ofNat 32 n) :
    ∃ k : ℕ, FirstMax (fun j => j < n) u (u k) k ∧ (Finset.univ : Finset (Fin n)).fold IntOp.minsi 2147483647#32 g = BitVec.ofNat 32 k := by
  classical
  obtain ⟨k, hk⟩ := FirstMax.exists_of (P := fun j => j < n) u (fun k h => h) ⟨0, hn⟩
  refine ⟨k, hk, ?_⟩
  have hM : (Finset.univ : Finset (Fin n)).fold max ⊥ f = u k := by
    apply le_antisymm
    · exact (Finset.fold_max_le _).2 ⟨bot_le, fun i _ => by rw [hu]; exact hk.le i i.isLt⟩
    · exact (Finset.le_fold_max _).2 (Or.inr ⟨⟨k, hk.mem⟩, Finset.mem_univ _, by rw [hu]⟩)
  rw [hM] at h1 h2
  have hg : ∀ i : Fin n, g i = BitVec.ofNat 32 (if f i = u k then (i : ℕ) else n) := by
    intro i
    by_cases c : f i = u k
    · rw [if_pos c, h1 i c]
    · rw [if_neg c, h2 i c]
  have hk' : k < n := hk.mem
  rw [(fold_minsi g (fun i => if f i = u k then (i : ℕ) else n) (fun i => by have := i.isLt; split <;> omega) hg _).1]
  congr 1
  apply le_antisymm
  · refine (Finset.fold_min_le _).2 (Or.inr ⟨⟨k, hk'⟩, Finset.mem_univ _, ?_⟩)
    rw [if_pos (hu _)]
  · refine (Finset.le_fold_min _).2 ⟨by omega, fun i _ => ?_⟩
    by_cases c : f i = u k
    · rw [if_pos c]
      by_contra hlt
      have := hk.lt i i.isLt (by omega)
      rw [← hu, c] at this
      exact lt_irrefl _ this
    · rw [if_neg c]; omega

/-- The disjunction of a family of bits. -/
theorem fold_or {n : ℕ} (g : Fin n → BitVec 1) :
    (Finset.univ : Finset (Fin n)).fold IntOp.ori 0#1 g = 1#1 ↔ ∃ i, g i = 1#1 := by
  have := Finset.fold_op_rel_iff_or (op := IntOp.ori (w := 1)) (r := fun _ b => b = 1#1) (f := g) (s := Finset.univ) (b := 0#1)
    (by intro x y z; revert y z; decide) (c := 1#1)
  simpa using this

/-- The negative infinity constant. -/
theorem c_bot : Ideal.ofBits .f32 0xFF800000#32 = ⊥ := by
  simp [Ideal.ofBits, Ideal.ieee]

/-- The greatest channel, as the reference finds it. -/
theorem chan_first (X : FVec Ideal S2x512x512x54 .f32) (b : Fin 2) (y x : Fin 512) (u : ℕ → EReal) (hu : ∀ ch : Fin 54, X (ix4 b y x ch) = u ch) :
    ∃ k : ℕ, FirstMax (fun j => j < 54) u (u k) k ∧ Host.reduce IntOp.minsi (select (cmpf .oeq X (broadcastInDim S2x512x512x54 ![0, 1, 2, 3] Gen.bcast_S2x512x512x1_S2x512x512x54_0_1_2_3 (broadcastInDim S2x512x512x1 ![0, 1, 2] Gen.bcast_S2x512x512_S2x512x512x1_0_1_2 (Host.reduce FloatOps.maximumf X (constant S_ .f32 0xFF800000#32) Gen.reducesTo_S2x512x512x54_S2x512x512_d3 Gen.h_S_)))) (iotaInDim S2x512x512x54 32 3) (broadcastInDim S2x512x512x54 ![] Gen.bcast_S_S2x512x512x54 (id (constantI S_ 32 54#32)))) (constantI S_ 32 2147483647#32) Gen.reducesTo_S2x512x512x54_S2x512x512_d3 Gen.h_S_ (ix3 b y x) = BitVec.ofNat 32 k := by
  pointwise []
  rw [c_bot]
  exact fold_first (by norm_num) (by norm_num) (fun ch => X (ix4 b y x ch)) u hu _ (fun i h => if_pos h) (fun i h => if_neg h)

/-- The first greatest detection, as the reference finds it. -/
theorem det_first (X : FVec Ideal S2x100x512x512 .f32) (b : Fin 2) (y x : Fin 512) (u : ℕ → EReal) (hu : ∀ d : Fin 100, X (ix4 b d y x) = u d) :
    ∃ k : ℕ, FirstMax (fun j => j < 100) u (u k) k ∧ Host.reduce IntOp.minsi (select (cmpf .oeq X (broadcastInDim S2x100x512x512 ![0, 1, 2, 3] Gen.bcast_S2x1x512x512_S2x100x512x512_0_1_2_3 (broadcastInDim S2x1x512x512 ![0, 2, 3] Gen.bcast_S2x512x512_S2x1x512x512_0_2_3 (Host.reduce FloatOps.maximumf X (constant S_ .f32 0xFF800000#32) Gen.reducesTo_S2x100x512x512_S2x512x512_d1 Gen.h_S_)))) (broadcastInDim S2x100x512x512 ![1, 2, 3] Gen.bcast_S100x512x512_S2x100x512x512_1_2_3 (iotaInDim S100x512x512 32 0)) (broadcastInDim S2x100x512x512 ![1, 2, 3] Gen.bcast_S100x512x512_S2x100x512x512_1_2_3 (broadcastInDim S100x512x512 ![] Gen.bcast_S_S100x512x512 (id (constantI S_ 32 100#32))))) (constantI S_ 32 2147483647#32) Gen.reducesTo_S2x100x512x512_S2x512x512_d1 Gen.h_S_ (ix3 b y x) = BitVec.ofNat 32 k := by
  pointwise []
  rw [c_bot]
  exact fold_first (by norm_num) (by norm_num) (fun d => X (ix4 b d y x)) u hu _ (fun i h => if_pos h) (fun i h => if_neg h)

/-- Whether some detection covers a pixel. -/
theorem any_det (X : IVec S2x100x512x512 1) (b : Fin 2) (y x : Fin 512) :
    Host.reduce IntOp.ori X (constantI S_ 1 0#1) Gen.reducesTo_S2x100x512x512_S2x512x512_d1 Gen.h_S_ (ix3 b y x) = 1#1 ↔ ∃ d : Fin 100, X (ix4 b d y x) = 1#1 := by
  pointwise []
  exact fold_or _

end Cert.Panoptic.R

end
-- ==== Proof.Gathers.lean ====
/- The reference's gathers, read at an index. -/
module

public import proofs.«01_k».proof.Proof.Decode
public import proofs.«01_k».proof.Proof.Target
public import proofs.«01_k».proof.Proof.Gen.ReferenceIdeal.Run
public import Idealize.ShloMosaic.Lib.Pointwise

@[expose] public section

set_option maxRecDepth 16384

noncomputable section

namespace Cert.Panoptic.R

open Idealize.ShloMosaic Idealize.ShloMosaic.TcCoe Idealize.ShloMosaic.Tactic Cert.ReferenceIdeal Cert.Panoptic

open Cert.ReferenceIdeal.Value

/-- A mask sampled at computed rows and columns: the entry at the two words, each read signed and held within the mask. -/
theorem mask_gather {α : Type} (M : S2x100x28x28.Idx → α) (I : IVec S2x100x512x512x2 32) (b : Fin 2) (d : Fin 100) (y x : Fin 512) :
    Host.gather gather_S2x100x28x28_S2x100x512x512x2_S2x100x512x512_n_23_01_01_23_4_1111 M I (ix4 b d y x)
      = M (ix4 b d ⟨min (I (ix5 b d y x 0)).toInt.toNat 27, by omega⟩ ⟨min (I (ix5 b d y x 1)).toInt.toNat 27, by omega⟩) := by
  unfold Host.gather
  congr 1
  funext a
  refine Fin.ext ?_
  generalize hG : gather_S2x100x28x28_S2x100x512x512x2_S2x100x512x512_n_23_01_01_23_4_1111 = G
  show G.start (ix4 b d y x) I a + G.batchCoord (ix4 b d y x) a + G.offCoord (ix4 b d y x) a = _
  subst hG
  have h4 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h4 with rfl | rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine congrArg (fun i => min (I i).toInt.toNat 27) ?_
    funext c; refine Fin.ext ?_
    match c with
    | ⟨0, _⟩ => rfl
    | ⟨1, _⟩ => rfl
    | ⟨2, _⟩ => rfl
    | ⟨3, _⟩ => rfl
    | ⟨4, _⟩ => rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine congrArg (fun i => min (I i).toInt.toNat 27) ?_
    funext c; refine Fin.ext ?_
    match c with
    | ⟨0, _⟩ => rfl
    | ⟨1, _⟩ => rfl
    | ⟨2, _⟩ => rfl
    | ⟨3, _⟩ => rfl
    | ⟨4, _⟩ => rfl

/-- A class taken at a computed detection: the entry at the word, read signed and held within the hundred. -/
theorem class_gather {α : Type} (C : S2x100.Idx → α) (I : IVec S2x512x512x1 32) (b : Fin 2) (y x : Fin 512) :
    Host.gather gather_S2x100_S2x512x512x1_S2x512x512_n_1_0_0_1_3_11 C I (ix3 b y x)
      = C (ix2 b ⟨min (I (ix4 b y x 0)).toInt.toNat 99, by omega⟩) := by
  unfold Host.gather
  congr 1
  funext a
  refine Fin.ext ?_
  generalize hG : gather_S2x100_S2x512x512x1_S2x512x512_n_1_0_0_1_3_11 = G
  show G.start (ix3 b y x) I a + G.batchCoord (ix3 b y x) a + G.offCoord (ix3 b y x) a = _
  subst hG
  have h2 : a = 0 ∨ a = 1 := by
    match a with
    | ⟨0, _⟩ => exact Or.inl rfl
    | ⟨1, _⟩ => exact Or.inr rfl
  rcases h2 with rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    refine congrArg (fun i => min (I i).toInt.toNat 99) ?_
    funext c; refine Fin.ext ?_
    match c with
    | ⟨0, _⟩ => rfl
    | ⟨1, _⟩ => rfl
    | ⟨2, _⟩ => rfl
    | ⟨3, _⟩ => rfl

end Cert.Panoptic.R

end
-- ==== Proof.Words.lean ====
/- The reference's words as integers: the box sides and the sampled positions. -/
module

public import proofs.«01_k».proof.Proof.Decode
public import proofs.«01_k».proof.Proof.Target
public import proofs.«01_k».proof.Proof.Gen.ReferenceIdeal.Run
public import Idealize.ShloMosaic.Lib.Pointwise

@[expose] public section

set_option maxRecDepth 16384

noncomputable section

namespace Cert.Panoptic.R

open Idealize.ShloMosaic Idealize.ShloMosaic.TcCoe Idealize.ShloMosaic.Tactic Cert.ReferenceIdeal Cert.Panoptic

open Cert.ReferenceIdeal.Value

/-- The lesser of two signed words. -/
theorem minsi_toInt (a b : BitVec 32) : (IntOp.minsi a b).toInt = min a.toInt b.toInt := by
  unfold IntOp.minsi
  rw [BitVec.slt_eq_decide]
  by_cases h : a.toInt < b.toInt
  · rw [decide_eq_true h, if_pos rfl, min_eq_left h.le]
  · rw [decide_eq_false h, if_neg (by decide), min_eq_right (by omega)]

/-- The greater of two signed words. -/
theorem maxsi_toInt (a b : BitVec 32) : (IntOp.maxsi a b).toInt = max a.toInt b.toInt := by
  unfold IntOp.maxsi
  rw [BitVec.slt_eq_decide]
  by_cases h : b.toInt < a.toInt
  · rw [decide_eq_true h, if_pos rfl, max_eq_left h.le]
  · rw [decide_eq_false h, if_neg (by decide), max_eq_right (by omega)]

/-- A sum of signed words that fits. -/
theorem addi_toInt {a b : BitVec 32} (h : -2 ^ 31 ≤ a.toInt + b.toInt ∧ a.toInt + b.toInt < 2 ^ 31) : (IntOp.addi a b).toInt = a.toInt + b.toInt := by
  unfold IntOp.addi
  rw [BitVec.toInt_add, Int.bmod_def]
  omega

/-- A difference of signed words that fits. -/
theorem subi_toInt {a b : BitVec 32} (h : -2 ^ 31 ≤ a.toInt - b.toInt ∧ a.toInt - b.toInt < 2 ^ 31) : (IntOp.subi a b).toInt = a.toInt - b.toInt := by
  unfold IntOp.subi
  rw [BitVec.toInt_sub, Int.bmod_def]
  omega

/-- A small number as a word. -/
theorem ofNat_toInt {n : ℕ} (h : n < 2 ^ 31) : (BitVec.ofNat 32 n).toInt = n := by
  simp only [BitVec.toInt_ofNat', Int.bmod_def]
  omega

/-- A converted signed word. -/
theorem sitofp_int (w : BitVec 32) : FloatOps.sitofp (F := Ideal) .f32 w = (((w.toInt : ℤ) : ℝ) : EReal) := rfl

/-- A whole real as a word: held within the words. -/
theorem fptosi_floor (r : ℝ) : (FloatOps.fptosi (F := Ideal) (φ := .f32) 32 (Ideal.liftRound Int.floor (r : EReal))).toInt
    = max (-2 ^ 31) (min (2 ^ 31 - 1) ⌊r⌋) := by
  rw [Ideal.liftRound_coe]
  change (Ideal.fptosi 32 _).toInt = _
  unfold Ideal.fptosi
  rw [Ideal.toIntClamped_coe]
  have : (if 0 ≤ ((⌊r⌋ : ℤ) : ℝ) then ⌊((⌊r⌋ : ℤ) : ℝ)⌋ else ⌈((⌊r⌋ : ℤ) : ℝ)⌉) = ⌊r⌋ := by
    rw [Int.floor_intCast, Int.ceil_intCast]; split <;> rfl
  rw [this]
  simp only [BitVec.toInt_ofInt, Int.bmod_def]
  norm_num
  omega

/-- The end of a box as the reference clips it. -/
def hiR (w : BitVec 32) : BitVec 32 := IntOp.minsi 512#32 (IntOp.maxsi 0#32 (IntOp.addi w 1#32))

/-- The reference's end: clipped below at zero too. -/
theorem hiR_toInt {w : BitVec 32} (h : -2 ^ 30 ≤ w.toInt ∧ w.toInt ≤ 2 ^ 30) : (hiR w).toInt = min 512 (max 0 (w.toInt + 1)) := by
  unfold hiR
  have e1 : (1#32 : BitVec 32).toInt = 1 := by decide
  rw [minsi_toInt, maxsi_toInt, addi_toInt (by rw [e1]; omega), e1]
  rfl

/-- The kernel's end. -/
theorem hiW_toInt {w : BitVec 32} (h : -2 ^ 30 ≤ w.toInt ∧ w.toInt ≤ 2 ^ 30) : K.hiW w = min (w.toInt + 1) 512 := by
  have e1 : (1#32 : BitVec 32).toInt = 1 := by decide
  unfold K.hiW
  change (IntOp.minsi (IntOp.addi w 1#32) 512#32).toInt = _
  rw [minsi_toInt, addi_toInt (by rw [e1]; omega), e1]
  rfl

/-- The sampled mask row as the reference computes it. -/
def sampR (l h : BitVec 32) (n : ℕ) : BitVec 32 :=
  IntOp.minsi 27#32 (IntOp.maxsi 0#32 (FloatOps.fptosi (F := Ideal) (φ := .f32) 32 (Ideal.liftRound Int.floor
    ((FloatOps.sitofp (F := Ideal) .f32 (IntOp.subi (BitVec.ofNat 32 n) l) + Ideal.ofBits FTy.f32 1056964608#32) *
      Ideal.div (Ideal.ofBits FTy.f32 1105199104#32) (FloatOps.sitofp (F := Ideal) .f32 (IntOp.maxsi (IntOp.subi (hiR h) l) 1#32))))))

/-- It is the specified one. -/
theorem sampR_toInt {l h : BitVec 32} {n : ℕ} (hl : -2 ^ 30 ≤ l.toInt ∧ l.toInt ≤ 2 ^ 30) (hh : -2 ^ 30 ≤ h.toInt ∧ h.toInt ≤ 2 ^ 30)
    (hn : n < 512) : (sampR l h n).toInt = sI l.toInt (hiR h).toInt n := by
  have eh := hiR_toInt hh
  have en := ofNat_toInt (n := n) (by omega)
  have es : (IntOp.subi (BitVec.ofNat 32 n) l).toInt = (n : ℤ) - l.toInt := by rw [subi_toInt (by rw [en]; omega), en]
  have eb : (IntOp.subi (hiR h) l).toInt = (hiR h).toInt - l.toInt := subi_toInt (by omega)
  have ez : (1#32 : BitVec 32).toInt = 1 := by decide
  have hp : max (((hiR h).toInt : ℝ) - l.toInt) 1 ≠ 0 := ne_of_gt (lt_of_lt_of_le one_pos (le_max_right _ _))
  unfold sampR
  rw [minsi_toInt, maxsi_toInt, sitofp_int, sitofp_int, es, maxsi_toInt, eb, ez, K.c_half, K.c_28]
  have c1 : (((n : ℤ) - l.toInt : ℤ) : ℝ) = (n : ℝ) - l.toInt := by push_cast; rfl
  have c2 : ((max ((hiR h).toInt - l.toInt) 1 : ℤ) : ℝ) = max (((hiR h).toInt : ℝ) - l.toInt) 1 := by push_cast; rfl
  rw [c1, c2, Ideal.div_coe hp, ← EReal.coe_mul, ← EReal.coe_add, ← EReal.coe_mul, fptosi_floor]
  have e27 : (27#32 : BitVec 32).toInt = 27 := by decide
  have e0 : (0#32 : BitVec 32).toInt = 0 := by decide
  rw [e27, e0]
  unfold sI
  omega

/-- Whether the reference takes a pixel for covered, on one side of the box. -/
theorem side {h : BitVec 32} {n : ℕ} (hh : -2 ^ 30 ≤ h.toInt ∧ h.toInt ≤ 2 ^ 30) :
    (n : ℤ) < (hiR h).toInt ↔ (n : ℤ) < K.hiW h ∧ (hiR h).toInt = K.hiW h := by
  rw [hiR_toInt hh, hiW_toInt hh]
  omega

end Cert.Panoptic.R

end
-- ==== Proof.Cover.lean ====
/- The reference's question whether a detection covers a pixel, decided by its box and its mask. -/
module

public import proofs.«01_k».proof.Proof.Resize
public import proofs.«01_k».proof.Proof.First
public import proofs.«01_k».proof.Proof.Gathers
public import proofs.«01_k».proof.Proof.Words
public import Idealize.ShloMosaic.Lib.Pointwise

@[expose] public section

set_option maxRecDepth 16384

noncomputable section

namespace Cert.Panoptic.R

open Idealize.ShloMosaic Idealize.ShloMosaic.TcCoe Idealize.ShloMosaic.Tactic Cert.ReferenceIdeal Cert.Panoptic

open Cert.ReferenceIdeal.Value

variable (V : Valuation τ sig (Elt Ideal))

/-- The scores of a batch element. -/
abbrev sc (b : Fin 2) : Fin 100 → EReal := fun d => V (Proc.tc.devRef main_arg0) (ix2 b d)
/-- The boxes of a batch element. -/
abbrev bx (b : Fin 2) : Fin 100 → Fin 4 → EReal := fun d q => V (Proc.tc.devRef main_arg2) (ix3 b d q)
/-- The masks of a batch element. -/
abbrev mk (b : Fin 2) : Fin 100 → Fin 28 → Fin 28 → EReal := fun d p q => V (Proc.tc.devRef main_arg3) (ix4 b d p q)

/-- The sampled row of a mask. -/
theorem row_eq (b : Fin 2) (d : Fin 100) (y : Fin 512) :
    res_main_v77 V (ix4 b d y 0) = sampR (word (bx V b d 0)) (word (bx V b d 2)) y := by
  pointwise [res_main_v77, res_main_v41, res_main_v20, res_main_v0, res_main_v27]
  rfl

/-- The sampled column of a mask. -/
theorem col_eq (b : Fin 2) (d : Fin 100) (x : Fin 512) :
    res_main_v78 V (ix4 b d 0 x) = sampR (word (bx V b d 1)) (word (bx V b d 3)) x := by
  pointwise [res_main_v78, res_main_v42, res_main_v22, res_main_v0, res_main_v32]
  rfl

/-- The first row of the box. -/
theorem v20_eq (b : Fin 2) (d : Fin 100) : res_main_v20 V (ix2 b d) = word (bx V b d 0) := by
  pointwise [res_main_v20, res_main_v0]
  rfl
/-- The first column of the box. -/
theorem v22_eq (b : Fin 2) (d : Fin 100) : res_main_v22 V (ix2 b d) = word (bx V b d 1) := by
  pointwise [res_main_v22, res_main_v0]
  rfl
/-- One past the last row of the box, clamped. -/
theorem v27_eq (b : Fin 2) (d : Fin 100) : res_main_v27 V (ix2 b d) = hiR (word (bx V b d 2)) := by
  pointwise [res_main_v27, res_main_v0]
  rfl
/-- One past the last column of the box, clamped. -/
theorem v32_eq (b : Fin 2) (d : Fin 100) : res_main_v32 V (ix2 b d) = hiR (word (bx V b d 3)) := by
  pointwise [res_main_v32, res_main_v0]
  rfl

/-- The sampling positions, rows then columns. -/
def places : IVec S2x100x512x512x2 32 :=
  concatenate S2x100x512x512x2 4 [⟨S2x100x512x512x1, (broadcastInDim S2x100x512x512x1 ![0, 1, 2, 3] Gen.bcast_S2x100x512x512_S2x100x512x512x1_0_1_2_3 (broadcastInDim S2x100x512x512 ![0, 1, 2, 3] Gen.bcast_S2x100x512x1_S2x100x512x512_0_1_2_3 (select (cmpi .slt (res_main_v77 V) (broadcastInDim S2x100x512x1 ![] Gen.bcast_S_S2x100x512x1 (constantI S_ 32 0#32))) (addi (res_main_v77 V) (broadcastInDim S2x100x512x1 ![] Gen.bcast_S_S2x100x512x1 (constantI S_ 32 28#32))) (res_main_v77 V))))⟩, ⟨S2x100x512x512x1, (broadcastInDim S2x100x512x512x1 ![0, 1, 2, 3] Gen.bcast_S2x100x512x512_S2x100x512x512x1_0_1_2_3 (broadcastInDim S2x100x512x512 ![0, 1, 2, 3] Gen.bcast_S2x100x1x512_S2x100x512x512_0_1_2_3 (select (cmpi .slt (res_main_v78 V) (broadcastInDim S2x100x1x512 ![] Gen.bcast_S_S2x100x1x512 (constantI S_ 32 0#32))) (addi (res_main_v78 V) (broadcastInDim S2x100x1x512 ![] Gen.bcast_S_S2x100x1x512 (constantI S_ 32 28#32))) (res_main_v78 V))))⟩] Gen.concatenates_S2x100x512x512x1_S2x100x512x512x1_S2x100x512x512x2_d4

/-- A word that is not negative is kept by the wrap of negative indices. -/
theorem wrap_eq {w z : BitVec 32} (h : 0 ≤ w.toInt) : Scalar.select (IntOp.cmpi .slt w 0#32) z w = w := by
  have : w.slt 0#32 = false := by
    rw [BitVec.slt_eq_decide]
    simp only [decide_eq_false_iff_not]
    have : (0#32 : BitVec 32).toInt = 0 := by decide
    omega
  change (if BitVec.ofBool (w.slt 0#32) = 1#1 then z else w) = w
  rw [this]; rfl

/-- The mask's row read at a pixel row. -/
theorem places0 (b : Fin 2) (d : Fin 100) (y x : Fin 512) (h : 0 ≤ (res_main_v77 V (ix4 b d y 0)).toInt) :
    places V (ix5 b d y x 0) = res_main_v77 V (ix4 b d y 0) := by
  pointwise [places]
  exact wrap_eq h
/-- The mask's column read at a pixel column. -/
theorem places1 (b : Fin 2) (d : Fin 100) (y x : Fin 512) (h : 0 ≤ (res_main_v78 V (ix4 b d 0 x)).toInt) :
    places V (ix5 b d y x 1) = res_main_v78 V (ix4 b d 0 x) := by
  pointwise [places]
  exact wrap_eq h

/-- A bit of a decided proposition. -/
theorem ofBool_one (p : Prop) [Decidable p] : BitVec.ofBool (decide p) = 1#1 ↔ p := by
  by_cases h : p <;> simp [h]

/-- The conjunction of two bits. -/
theorem andi_one (a b : BitVec 1) : IntOp.andi a b = 1#1 ↔ a = 1#1 ∧ b = 1#1 := by
  revert a b; decide

/-- A word's signed comparison with a small number. -/
theorem sge_one {n : ℕ} (hn : n < 2 ^ 31) (w : BitVec 32) : IntOp.cmpi .sge (BitVec.ofNat 32 n) w = 1#1 ↔ w.toInt ≤ (n : ℤ) := by
  change BitVec.ofBool (w.sle (BitVec.ofNat 32 n)) = 1#1 ↔ _
  rw [BitVec.sle_eq_decide, ofBool_one, ofNat_toInt hn]
/-- A small number's signed comparison with a word. -/
theorem slt_one {n : ℕ} (hn : n < 2 ^ 31) (w : BitVec 32) : IntOp.cmpi .slt (BitVec.ofNat 32 n) w = 1#1 ↔ (n : ℤ) < w.toInt := by
  change BitVec.ofBool ((BitVec.ofNat 32 n).slt w) = 1#1 ↔ _
  rw [BitVec.slt_eq_decide, ofBool_one, ofNat_toInt hn]

/-- A selection against zero exceeds one half when the condition holds and the value does. -/
theorem half_lt_select (c : BitVec 1) (a : EReal) : ((1 / 2 : ℝ) : EReal) < Scalar.select c a (Ideal.ofBits FTy.f32 0#32) ↔ c = 1#1 ∧ ((1 / 2 : ℝ) : EReal) < a := by
  have hz : Ideal.ofBits FTy.f32 0#32 = ((0 : ℝ) : EReal) := by simp [Ideal.ofBits, Ideal.ieee]
  change _ < (if c = 1#1 then a else _) ↔ _
  by_cases h : c = 1#1
  · rw [if_pos h]; exact ⟨fun g => ⟨h, g⟩, fun g => g.2⟩
  · rw [if_neg h, hz, EReal.coe_lt_coe_iff]
    exact ⟨fun g => absurd g (by norm_num), fun g => absurd g.1 h⟩

/-- The sampled entry's index. -/
theorem samp_fin {l h w : BitVec 32} {n : ℕ} {hi : ℤ} (hw : w.toInt = sI l.toInt (hiR h).toInt n) (e : (hiR h).toInt = hi) (p : min w.toInt.toNat 27 < 28) :
    (⟨min w.toInt.toNat 27, p⟩ : Fin 28) = sN l.toInt hi n := by
  refine Fin.ext ?_
  change min w.toInt.toNat 27 = (sI l.toInt hi n).toNat
  have := sI_lt l.toInt hi n
  rw [hw, e]; omega

/-- The reference's coverage of a pixel by a detection is the specified one. -/
theorem covers_iff (b : Fin 2) (hb : ∀ d q, -2 ^ 30 ≤ (word (bx V b d q)).toInt ∧ (word (bx V b d q)).toInt ≤ 2 ^ 30) (d : Fin 100) (y x : Fin 512) :
    res_main_v133 V (ix4 b d y x) = 1#1 ↔ Covers (sc V b) (bx V b) (mk V b) y x d := by
  have er := row_eq V b d y
  have ec := col_eq V b d x
  have sr := sampR_toInt (hb d 0) (hb d 2) y.isLt
  have sc' := sampR_toInt (hb d 1) (hb d 3) x.isLt
  have p0 := places0 V b d y x (by rw [er, sr]; exact sI_nonneg _ _ _)
  have p1 := places1 V b d y x (by rw [ec, sc']; exact sI_nonneg _ _ _)
  have hg := mask_gather (V (Proc.tc.devRef main_arg3)) (places V) b d y x
  pointwise [res_main_v133, res_main_v41, res_main_v42]
  change IntOp.andi (BitVec.ofBool (decide (Ideal.ofBits FTy.f32 1056964608#32 < Scalar.select _
    (Host.gather gather_S2x100x28x28_S2x100x512x512x2_S2x100x512x512_n_23_01_01_23_4_1111 (V (Proc.tc.devRef main_arg3)) (places V) (ix4 b d y x)) (Ideal.ofBits FTy.f32 0#32)))) _ = 1#1 ↔ _
  rw [hg, andi_one, ofBool_one, ofBool_one, K.c_half, half_lt_select, andi_one, andi_one, andi_one, sge_one (by omega), sge_one (by omega),
    slt_one (by omega), slt_one (by omega), v20_eq, v22_eq, v27_eq, v32_eq, side (hb d 2), side (hb d 3)]
  replace sr := (congrArg BitVec.toInt (p0.trans er)).trans sr
  replace sc' := (congrArg BitVec.toInt (p1.trans ec)).trans sc'
  constructor
  · rintro ⟨⟨⟨⟨a1, a2, e1⟩, ⟨a3, a4, e2⟩⟩, a5⟩, a6⟩
    refine ⟨d.isLt, a6, ⟨a1, a2⟩, ⟨a3, a4⟩, ?_⟩
    rw [samp_fin sr e1, samp_fin sc' e2] at a5
    exact a5
  · rintro ⟨_, a6, ⟨a1, a2⟩, ⟨a3, a4⟩, a5⟩
    have e1 : (hiR (word (bx V b d 2))).toInt = K.hiW (word (bx V b d 2)) := by
      rw [hiR_toInt (hb d 2), hiW_toInt (hb d 2)]; rw [hiW_toInt (hb d 2)] at a2; omega
    have e2 : (hiR (word (bx V b d 3))).toInt = K.hiW (word (bx V b d 3)) := by
      rw [hiR_toInt (hb d 3), hiW_toInt (hb d 3)]; rw [hiW_toInt (hb d 3)] at a4; omega
    refine ⟨⟨⟨⟨a1, a2, e1⟩, ⟨a3, a4, e2⟩⟩, ?_⟩, a6⟩
    rw [samp_fin sr e1, samp_fin sc' e2]
    exact a5

end Cert.Panoptic.R

end
-- ==== Proof.Result.lean ====
/- The reference's two results at a pixel. -/
module

public import proofs.«01_k».proof.Proof.Cover
public import Idealize.ShloMosaic.Lib.Pointwise

@[expose] public section

set_option maxRecDepth 16384

noncomputable section

namespace Cert.Panoptic.R

open Idealize.ShloMosaic Idealize.ShloMosaic.TcCoe Idealize.ShloMosaic.Tactic Cert.ReferenceIdeal Cert.Panoptic

open Cert.ReferenceIdeal.Value

section Forms

variable (b : Fin 2) (y x : Fin 512)

/-- The classes' result from the owner's class and the channel. -/
def catF (C S : FVec Ideal S2x512x512 .f32) : IVec S2x512x512 32 :=
  fptosi 32 (select (andi (andi (cmpf .oeq C (broadcastInDim S2x512x512 ![] Gen.bcast_S_S2x512x512 (constant S_ .f32 0x00000000#32))) (cmpf .une S (broadcastInDim S2x512x512 ![] Gen.bcast_S_S2x512x512 (constant S_ .f32 0x3F800000#32)))) (cmpf .une S (broadcastInDim S2x512x512 ![] Gen.bcast_S_S2x512x512 (constant S_ .f32 0x00000000#32)))) S C)

/-- The instances' result from the ownership and the owner. -/
def instF (A : IVec S2x512x512 1) (O : IVec S2x512x512 32) : IVec S2x512x512 32 :=
  fptosi (F := Ideal) (φ := .f32) 32 (select A (addf (sitofp (F := Ideal) .f32 O) (broadcastInDim S2x512x512 ![] Gen.bcast_S_S2x512x512 (constant (F := Ideal) S_ .f32 0x3F800000#32))) (broadcastInDim S2x512x512 ![1, 2] Gen.bcast_S512x512_S2x512x512_1_2 (broadcastInDim S512x512 ![] Gen.bcast_S_S512x512 (id (constant (F := Ideal) S_ .f32 0xBF800000#32)))))

/-- A selection whose condition has a false part takes the second value. -/
theorem sel_no (p q : BitVec 1) (s t : EReal) : Scalar.select (IntOp.andi (IntOp.andi (BitVec.ofBool false) p) q) s t = t := by
  have : IntOp.andi (IntOp.andi (BitVec.ofBool false) p) q ≠ 1#1 := by revert p q; decide
  exact if_neg this

/-- The channel moved up by ninety, but for channels zero and one. -/
def stuffF (S : FVec Ideal S2x512x512 .f32) : FVec Ideal S2x512x512 .f32 :=
  select (ori (cmpf .oeq S (broadcastInDim S2x512x512 ![] Gen.bcast_S_S2x512x512 (constant S_ .f32 0x3F800000#32))) (cmpf .oeq S (broadcastInDim S2x512x512 ![] Gen.bcast_S_S2x512x512 (constant S_ .f32 0x00000000#32)))) S (addf S (broadcastInDim S2x512x512 ![] Gen.bcast_S_S2x512x512 (constant S_ .f32 0x42B40000#32)))

/-- The owner's class. -/
def ownF (A : IVec S2x512x512 1) (O : IVec S2x512x512 32) (C : FVec Ideal S2x100 .f32) : FVec Ideal S2x512x512 .f32 :=
  select A (Host.gather gather_S2x100_S2x512x512x1_S2x512x512_n_1_0_0_1_3_11 C (broadcastInDim S2x512x512x1 ![0, 1, 2] Gen.bcast_S2x512x512_S2x512x512x1_0_1_2 (select (cmpi .slt O (broadcastInDim S2x512x512 ![] Gen.bcast_S_S2x512x512 (constantI S_ 32 0#32))) (addi O (broadcastInDim S2x512x512 ![] Gen.bcast_S_S2x512x512 (constantI S_ 32 100#32))) O))) (broadcastInDim S2x512x512 ![1, 2] Gen.bcast_S512x512_S2x512x512_1_2 (broadcastInDim S512x512 ![] Gen.bcast_S_S512x512 (id (constant S_ .f32 0x00000000#32))))

/-- The classes' result at a pixel. -/
theorem catF_apply (C S : FVec Ideal S2x512x512 .f32) : catF C S (ix3 b y x) =
    FloatOps.fptosi (F := Ideal) (φ := .f32) 32 (Scalar.select (IntOp.andi (IntOp.andi (BitVec.ofBool (decide (C (ix3 b y x) = 0)))
      (BitVec.ofBool (decide (S (ix3 b y x) ≠ 1)))) (BitVec.ofBool (decide (S (ix3 b y x) ≠ 0)))) (S (ix3 b y x)) (C (ix3 b y x))) := by
  pointwise [catF]

/-- The instances' result at a pixel. -/
theorem instF_apply (A : IVec S2x512x512 1) (O : IVec S2x512x512 32) : instF A O (ix3 b y x) =
    FloatOps.fptosi (F := Ideal) (φ := .f32) 32 (Scalar.select (A (ix3 b y x)) (FloatOps.sitofp (F := Ideal) .f32 (O (ix3 b y x)) + 1) (Ideal.ofBits .f32 0xBF800000#32)) := by
  pointwise [instF]
  try rfl

/-- The moved channel at a pixel. -/
theorem stuffF_apply (S : FVec Ideal S2x512x512 .f32) {k : ℕ} (h : S (ix3 b y x) = ((k : ℝ) : EReal)) :
    stuffF S (ix3 b y x) = (((if k = 0 ∨ k = 1 then k else k + 90 : ℕ) : ℝ) : EReal) := by
  pointwise [stuffF]
  have h1 : (1 : EReal) = (((1 : ℕ) : ℝ) : EReal) := by norm_num
  have h0 : (0 : EReal) = (((0 : ℕ) : ℝ) : EReal) := by norm_num
  rw [h, K.c_90, h1, h0]
  simp only [EReal.coe_eq_coe_iff, Nat.cast_inj]
  by_cases c : k = 0 ∨ k = 1
  · rw [if_pos c]
    rcases c with rfl | rfl <;> rfl
  · rw [if_neg c, decide_eq_false (fun g => c (Or.inr g)), decide_eq_false (fun g => c (Or.inl g)), ← EReal.coe_add]
    push_cast
    rfl

/-- An owned pixel takes its owner's class. -/
theorem ownF_yes {A : IVec S2x512x512 1} {O : IVec S2x512x512 32} (C : FVec Ideal S2x100 .f32) {o : ℕ} (ho : o < 100) (hA : A (ix3 b y x) = 1#1)
    (hO : O (ix3 b y x) = BitVec.ofNat 32 o) : ownF A O C (ix3 b y x) = C (ix2 b ⟨o, ho⟩) := by
  have hw : ∀ I : IVec S2x512x512x1 32, I (ix4 b y x 0) = BitVec.ofNat 32 o →
      (⟨min (I (ix4 b y x 0)).toInt.toNat 99, by omega⟩ : Fin 100) = ⟨o, ho⟩ := by
    intro I hI
    refine Fin.ext ?_
    change min (I (ix4 b y x 0)).toInt.toNat 99 = o
    rw [hI, ofNat_toInt (by omega)]; omega
  unfold ownF
  generalize hI : (broadcastInDim S2x512x512x1 ![0, 1, 2] Gen.bcast_S2x512x512_S2x512x512x1_0_1_2 (select (cmpi .slt O (broadcastInDim S2x512x512 ![] Gen.bcast_S_S2x512x512 (constantI S_ 32 0#32))) (addi O (broadcastInDim S2x512x512 ![] Gen.bcast_S_S2x512x512 (constantI S_ 32 100#32))) O)) = I
  have e : I (ix4 b y x 0) = BitVec.ofNat 32 o := by
    rw [← hI]
    pointwise []
    rw [hO]
    exact wrap_eq (by rw [ofNat_toInt (by omega)]; omega)
  change (if A (ix3 b y x) = 1#1 then Host.gather gather_S2x100_S2x512x512x1_S2x512x512_n_1_0_0_1_3_11 C I (ix3 b y x) else _) = _
  rw [if_pos hA, class_gather, hw I e]

/-- A pixel nobody owns takes zero. -/
theorem ownF_no {A : IVec S2x512x512 1} {O : IVec S2x512x512 32} (C : FVec Ideal S2x100 .f32) (hA : A (ix3 b y x) ≠ 1#1) :
    ownF A O C (ix3 b y x) = 0 := by
  unfold ownF
  generalize Host.gather gather_S2x100_S2x512x512x1_S2x512x512_n_1_0_0_1_3_11 C _ = G
  pointwise []
  change (if A (ix3 b y x) = 1#1 then _ else Ideal.ofBits FTy.f32 0#32) = 0
  rw [if_neg hA]
  simp [Ideal.ofBits, Ideal.ieee]

end Forms

variable (V : Valuation τ sig (Elt Ideal))

/-- The reference's results. -/
def outCat : IVec S2x512x512 32 := catF (res_main_v151 V) (res_main_v18 V)
def outInst : IVec S2x512x512 32 := instF (res_main_v143 V) (res_main_v142 V)

variable (b : Fin 2) (y x : Fin 512)

/-- The score of a detection that covers a pixel, and else the least value. -/
theorem score_apply (d : Fin 100) : res_main_v135 V (ix4 b d y x) = (show EReal from if res_main_v133 V (ix4 b d y x) = 1#1 then sc V b d else ⊥) := by
  pointwise [res_main_v135]
  change (if res_main_v133 V (ix4 b d y x) = 1#1 then _ else Ideal.ofBits FTy.f32 4286578688#32) = _
  rw [c_bot]

/-- The reference's results at a pixel are the specified ones. -/
theorem reference_pixel (cls : ℕ → ℕ) (hc : ∀ d : Fin 100, (V (Proc.tc.devRef main_arg1) : FVec Ideal S2x100 .f32) (ix2 b d) = ((cls d : ℝ) : EReal))
    (hcls : ∀ d, d < 100 → 1 ≤ cls d ∧ cls d ≤ 511)
    (hb : ∀ d q, -2 ^ 30 ≤ (word (bx V b d q)).toInt ∧ (word (bx V b d q)).toInt ≤ 2 ^ 30) :
    Pixel (sc V b) cls (bx V b) (mk V b) (fun r l ch => V (Proc.tc.devRef main_arg4) (ix4 b r l ch)) y x (outCat V (ix3 b y x)) (outInst V (ix3 b y x)) := by
  classical
  obtain ⟨k, hk, ek⟩ := chan_first (res_main_v2 V) b y x _ (resized V b y x)
  have hk54 : k < 54 := hk.mem
  have e10 : (res_main_v10 V : FVec Ideal S2x512x512 .f32) (ix3 b y x) = ((k : ℝ) : EReal) := by
    refine Eq.trans ?_ (K.sitofp_nat' (n := k) (by omega))
    rw [← ek]; rfl
  have e18 : (res_main_v18 V : FVec Ideal S2x512x512 .f32) (ix3 b y x) = (((if k = 0 ∨ k = 1 then k else k + 90 : ℕ) : ℝ) : EReal) :=
    stuffF_apply b y x (res_main_v10 V) e10
  obtain ⟨o, ho, eo⟩ := det_first (res_main_v135 V) b y x (fun d => if Covers (sc V b) (bx V b) (mk V b) y x d then scoreN (sc V b) d else ⊥) (by
    intro d
    rw [score_apply]
    refine if_congr (covers_iff V b hb d y x) ?_ rfl
    unfold scoreN; rw [dif_pos d.isLt])
  have ho100 : o < 100 := ho.mem
  have e142 : (res_main_v142 V : IVec S2x512x512 32) (ix3 b y x) = BitVec.ofNat 32 o := eo
  have e143 : (res_main_v143 V : IVec S2x512x512 1) (ix3 b y x) = 1#1 ↔ ∃ d : Fin 100, Covers (sc V b) (bx V b) (mk V b) y x d :=
    (any_det (res_main_v133 V) b y x).trans (exists_congr fun d => covers_iff V b hb d y x)
  refine ⟨k, _, hk, ⟨fun p v hp => ?_, fun hno => ?_⟩⟩
  · have hp' := hp.mask (n := 100) (fun d hd => hd.1) (fun d hd => by
      obtain ⟨h, ht, -⟩ := hd
      unfold scoreN; rw [dif_pos h]
      exact lt_of_le_of_lt bot_le ht)
    obtain rfl : p = o := hp'.unique ho
    have hA := e143.2 ⟨⟨p, ho100⟩, hp.mem⟩
    have e151 : (res_main_v151 V : FVec Ideal S2x512x512 .f32) (ix3 b y x) = ((cls p : ℝ) : EReal) :=
      (ownF_yes b y x (V (Proc.tc.devRef main_arg1)) ho100 hA e142).trans (hc ⟨p, ho100⟩)
    obtain ⟨c1, c2⟩ := hcls p ho100
    have hne : ¬ ((cls p : ℝ) : EReal) = 0 := by
      have : (0 : EReal) = ((0 : ℝ) : EReal) := rfl
      rw [this, EReal.coe_eq_coe_iff]
      exact_mod_cast (by omega : cls p ≠ 0)
    constructor
    · unfold outCat
      rw [catF_apply, e151, decide_eq_false hne, ← fptosi_nat (n := cls p) (by omega)]
      exact congrArg _ (sel_no _ _ _ _)
    · unfold outInst
      rw [instF_apply, e142, hA, K.sitofp_nat' (by omega), ← fptosi_nat (n := p + 1) (by omega)]
      push_cast
      rfl
  · have hA : (res_main_v143 V : IVec S2x512x512 1) (ix3 b y x) ≠ 1#1 := fun h => by
      obtain ⟨d, hd⟩ := e143.1 h
      exact hno d hd
    have e151 : (res_main_v151 V : FVec Ideal S2x512x512 .f32) (ix3 b y x) = (show EReal from 0) := ownF_no b y x (V (Proc.tc.devRef main_arg1)) hA
    constructor
    · unfold outCat
      have h1 : (1 : EReal) = (((1 : ℕ) : ℝ) : EReal) := by norm_num
      have h0 : (0 : EReal) = (((0 : ℕ) : ℝ) : EReal) := by norm_num
      rw [catF_apply, e151, e18, decide_eq_true rfl, h1, h0]
      simp only [ne_eq, EReal.coe_eq_coe_iff, Nat.cast_inj]
      by_cases c : k = 0 ∨ k = 1
      · rw [if_pos c, if_pos c, ← fptosi_nat (n := 0) (by omega)]
        rcases c with rfl | rfl <;> rfl
      · rw [if_neg c, if_neg c, decide_eq_true (by omega), decide_eq_true (by omega), ← fptosi_nat (n := k + 90) (by omega)]
        rfl
    · unfold outInst
      rw [instF_apply, K.c_neg1]
      change FloatOps.fptosi (F := Ideal) (φ := .f32) 32 (if _ = 1#1 then _ else _) = _
      rw [if_neg hA, fptosi_neg_one]

end Cert.Panoptic.R

end
-- ==== Proof.Pre.lean ====
/- What the precondition says of the arguments. -/
module

public import proofs.«01_k».proof.Defs
public import proofs.«01_k».proof.Proof.Cover
public import Idealize.ShloMosaic.Lib.Pointwise

@[expose] public section

set_option maxRecDepth 16384

noncomputable section

namespace Cert.Panoptic.Pre

open Idealize.ShloMosaic Idealize.ShloMosaic.TcCoe Idealize.ShloMosaic.Tactic Cert.Pre_labels_and_boxes Cert.Panoptic

/-- The shape facts of the precondition's operations. -/
theorem facts : Cert.Pre_labels_and_boxes.Facts where
  bcast_S_S2x100 := by decide
  reducesTo_S2x100_S_d0_1 := by decide
  h_S_ := by decide
  bcast_S_S2x100x4 := by decide
  reducesTo_S2x100x4_S_d0_1_2 := by decide

/-- A conjunction over a family of bits. -/
theorem fold_and {ι : Type} (s : Finset ι) (g : ι → BitVec 1) : s.fold IntOp.andi 1#1 g = 1#1 ↔ ∀ i ∈ s, g i = 1#1 := by
  have := Finset.fold_op_rel_iff_and (op := IntOp.andi (w := 1)) (r := fun _ b => b = 1#1) (f := g) (s := s) (b := 1#1)
    (by intro x y z; revert y z; decide) (c := 1#1)
  simpa using this

/-- The value of this constant. -/
theorem c_511 : Ideal.ofBits .f32 0x43FF8000#32 = ((511 : ℝ) : EReal) := by
  simp [Ideal.ofBits, Ideal.ieee, -EReal.coe_mul]; norm_num
/-- The value of this constant. -/
theorem c_big : Ideal.ofBits .f32 0x4E800000#32 = ((1073741824 : ℝ) : EReal) := by
  simp [Ideal.ofBits, Ideal.ieee, -EReal.coe_mul]; norm_num
/-- The value of this constant. -/
theorem c_negbig : Ideal.ofBits .f32 0xCE800000#32 = ((-1073741824 : ℝ) : EReal) := by
  simp [Ideal.ofBits, Ideal.ieee, -EReal.coe_mul, -EReal.coe_neg]; norm_num

/-- An extended real between two reals is a real. -/
theorem real_of_between {v : EReal} {p q : ℝ} (h1 : (p : EReal) ≤ v) (h2 : v ≤ (q : EReal)) : ∃ r : ℝ, v = r ∧ p ≤ r ∧ r ≤ q := by
  induction v using EReal.rec with
  | bot => exact absurd h1 (by simp)
  | coe r => exact ⟨r, rfl, EReal.coe_le_coe_iff.1 h1, EReal.coe_le_coe_iff.1 h2⟩
  | top => exact absurd h2 (by simp)

/-- A box side of bounded size becomes a word of the same bound. -/
theorem word_bound {v : EReal} (h1 : ((-1073741824 : ℝ) : EReal) ≤ v) (h2 : v ≤ ((1073741824 : ℝ) : EReal)) :
    -2 ^ 30 ≤ (word v).toInt ∧ (word v).toInt ≤ 2 ^ 30 := by
  obtain ⟨r, rfl, a, b⟩ := real_of_between h1 h2
  have key : ∀ z : ℤ, -1073741824 ≤ z → z ≤ 1073741824 →
      -2 ^ 30 ≤ (BitVec.ofInt 32 (max (-(2 ^ (32 - 1) : ℕ) : ℤ) (min ((2 ^ (32 - 1) : ℕ) - 1) z))).toInt
        ∧ (BitVec.ofInt 32 (max (-(2 ^ (32 - 1) : ℕ) : ℤ) (min ((2 ^ (32 - 1) : ℕ) - 1) z))).toInt ≤ 2 ^ 30 := by
    intro z _ _
    simp only [BitVec.toInt_ofInt, Int.bmod_def]
    norm_num
    omega
  change -2 ^ 30 ≤ (Ideal.fptosi 32 _).toInt ∧ (Ideal.fptosi 32 _).toInt ≤ 2 ^ 30
  unfold Ideal.fptosi
  rw [Ideal.toIntClamped_coe]
  have f1 : -1073741824 ≤ ⌊r⌋ := Int.le_floor.2 (by push_cast; exact a)
  have f2 : ⌊r⌋ ≤ 1073741824 := by exact_mod_cast (Int.floor_le r).trans b
  have g1 : -1073741824 ≤ ⌈r⌉ := by exact_mod_cast a.trans (Int.le_ceil r)
  have g2 : ⌈r⌉ ≤ 1073741824 := Int.ceil_le.2 (by push_cast; exact b)
  split
  · exact key _ f1 f2
  · exact key _ g1 g2

/-- A whole number from one to 511. -/
theorem class_of {v : EReal} (h1 : (1 : EReal) ≤ v) (h2 : v ≤ ((511 : ℝ) : EReal)) (h3 : Ideal.liftRound Int.floor v = v) :
    ∃ n : ℕ, v = ((n : ℝ) : EReal) ∧ 1 ≤ n ∧ n ≤ 511 := by
  have e1 : (1 : EReal) = ((1 : ℝ) : EReal) := rfl
  rw [e1] at h1
  obtain ⟨r, rfl, a, b⟩ := real_of_between h1 h2
  rw [Ideal.liftRound_coe, EReal.coe_eq_coe_iff] at h3
  have f1 : 1 ≤ ⌊r⌋ := Int.le_floor.2 (by push_cast; exact a)
  have f2 : ⌊r⌋ ≤ 511 := by exact_mod_cast (Int.floor_le r).trans b
  refine ⟨⌊r⌋.toNat, ?_, by omega, by omega⟩
  rw [EReal.coe_eq_coe_iff]
  have : ((⌊r⌋.toNat : ℤ) : ℝ) = (⌊r⌋ : ℝ) := by rw [Int.toNat_of_nonneg (by omega)]
  have k : ((⌊r⌋.toNat : ℤ) : ℝ) = ((⌊r⌋.toNat : ℕ) : ℝ) := Int.cast_natCast _
  exact h3.symm.trans (this.symm.trans k)

/-- The precondition: the classes are whole numbers from one to 511, and the boxes' words are bounded. -/
theorem decode [Cert.Pre_labels_and_boxes.Facts] {a0 a1 : FVec Ideal S2x100 .f32} {a2 : FVec Ideal S2x100x4 .f32} {a3 : FVec Ideal S2x100x28x28 .f32}
    {a4 : FVec Ideal S2x128x128x54 .f32} (h : fn (F := Ideal) a0 a1 a2 a3 a4 = fun _ => 1#1) :
    (∀ (b : Fin 2) (d : Fin 100), ∃ n : ℕ, a1 (ix2 b d) = ((n : ℝ) : EReal) ∧ 1 ≤ n ∧ n ≤ 511)
      ∧ ∀ (b : Fin 2) (d : Fin 100) (q : Fin 4), -2 ^ 30 ≤ (word (a2 (ix3 b d q))).toInt ∧ (word (a2 (ix3 b d q))).toInt ≤ 2 ^ 30 := by
  have h := congrFun h ix0
  unfold fn at h
  pointwise [] at h
  rw [R.andi_one, fold_and, fold_and] at h
  obtain ⟨hc, hb⟩ := h
  constructor
  · intro b d
    have := hc (b, d) (Finset.mem_univ _)
    simp only [R.andi_one, R.ofBool_one, c_511] at this
    exact class_of this.1.1 this.1.2 this.2
  · intro b d q
    have := hb (b, d, q) (Finset.mem_univ _)
    simp only [R.andi_one, R.ofBool_one, c_big, c_negbig] at this
    exact word_bound this.1 this.2

end Cert.Panoptic.Pre

end
-- ==== Proof.Same.lean ====
/- The kernel's two final arrays are the reference's two results. -/
module

public import proofs.«01_k».proof.Proof.Blocks
public import proofs.«01_k».proof.Proof.Result
public import proofs.«01_k».proof.Proof.Pre

@[expose] public section

set_option maxRecDepth 16384

noncomputable section

namespace Cert.Panoptic

open Idealize.ShloMosaic Idealize.ShloMosaic.TcCoe
open Cert.ReferenceIdeal (S2x100 S2x100x4 S2x100x28x28 S2x128x128x54)

/-- Where the arguments agree and the precondition holds, the kernel's final arrays and the reference's results agree at every pixel. -/
theorem same [Cert.Pre_labels_and_boxes.Facts] (m : (ℓ : Loc KernelIdeal.nD KernelIdeal.τ KernelIdeal.sig) → Buf (Elt Ideal) ℓ) (c : Dev KernelIdeal.nD)
    (V : Valuation ReferenceIdeal.τ ReferenceIdeal.sig (Elt Ideal))
    (h0 : (V (Proc.tc.devRef ReferenceIdeal.main_arg0) : FVec Ideal S2x100 .f32) = K.A0 m c)
    (h1 : (V (Proc.tc.devRef ReferenceIdeal.main_arg1) : FVec Ideal S2x100 .f32) = K.A1 m c)
    (h2 : (V (Proc.tc.devRef ReferenceIdeal.main_arg2) : FVec Ideal S2x100x4 .f32) = K.A2 m c)
    (h3 : (V (Proc.tc.devRef ReferenceIdeal.main_arg3) : FVec Ideal S2x100x28x28 .f32) = K.A3 m c)
    (h4 : (V (Proc.tc.devRef ReferenceIdeal.main_arg4) : FVec Ideal S2x128x128x54 .f32) = K.A4 m c)
    (hpre : Pre_labels_and_boxes.fn (F := Ideal) (K.A0 m c) (K.A1 m c) (K.A2 m c) (K.A3 m c) (K.A4 m c) = fun _ => 1#1) (b : Fin 2) (y x : Fin 512) :
    R.outCat V (ix3 b y x) = (KernelIdeal.Gen.dats m 0 c).arrAt 8 KernelIdeal.cfg0.N (ix3 b y x)
      ∧ R.outInst V (ix3 b y x) = (KernelIdeal.Gen.dats m 0 c).arrAt 9 KernelIdeal.cfg0.N (ix3 b y x) := by
  obtain ⟨hcls, hbox⟩ := Pre.decode hpre
  choose k hk using fun d => hcls b d
  let cls : ℕ → ℕ := fun d => if h : d < 100 then k ⟨d, h⟩ else 1
  have e : ∀ d : Fin 100, cls d = k d := fun d => dif_pos d.isLt
  have hc : ∀ d : Fin 100, K.A1 m c (ix2 b d) = ((cls d : ℝ) : EReal) := fun d => by rw [e d]; exact (hk d).1
  have hr : ∀ d, d < 100 → 1 ≤ cls d ∧ cls d ≤ 511 := fun d h => by
    have := (hk ⟨d, h⟩).2
    rwa [← e ⟨d, h⟩] at this
  have P := K.kernel_pixel m c ⟨b.val, b.isLt⟩ y x cls hc (fun d h => (hr d h).2)
  have Q := R.reference_pixel V b y x cls (fun d => (congrFun h1 _).trans (hc d)) hr (fun d q => by
    have : R.bx V b d q = K.A2 m c (ix3 b d q) := congrFun h2 _
    rw [this]; exact hbox b d q)
  have i0 : R.sc V b = fun d => K.A0 m c (ix2 b d) := funext fun d => congrFun h0 _
  have i2 : R.bx V b = fun d q => K.A2 m c (ix3 b d q) := funext fun d => funext fun q => congrFun h2 _
  have i3 : R.mk V b = fun d i j => K.A3 m c (ix4 b d i j) := funext fun d => funext fun i => funext fun j => congrFun h3 _
  have i4 : (fun r l ch => (V (Proc.tc.devRef ReferenceIdeal.main_arg4) : FVec Ideal S2x128x128x54 .f32) (ix4 b r l ch)) = fun r l ch => K.A4 m c (ix4 b r l ch) :=
    funext fun r => funext fun l => funext fun ch => congrFun h4 _
  rw [i0, i2, i3] at Q
  have Q' := i4 ▸ Q
  exact Pixel.unique Q' P

/-- The same, of the whole arrays. -/
theorem same_arrays [Cert.Pre_labels_and_boxes.Facts] (m : (ℓ : Loc KernelIdeal.nD KernelIdeal.τ KernelIdeal.sig) → Buf (Elt Ideal) ℓ) (c : Dev KernelIdeal.nD)
    (V : Valuation ReferenceIdeal.τ ReferenceIdeal.sig (Elt Ideal))
    (h0 : (V (Proc.tc.devRef ReferenceIdeal.main_arg0) : FVec Ideal S2x100 .f32) = K.A0 m c)
    (h1 : (V (Proc.tc.devRef ReferenceIdeal.main_arg1) : FVec Ideal S2x100 .f32) = K.A1 m c)
    (h2 : (V (Proc.tc.devRef ReferenceIdeal.main_arg2) : FVec Ideal S2x100x4 .f32) = K.A2 m c)
    (h3 : (V (Proc.tc.devRef ReferenceIdeal.main_arg3) : FVec Ideal S2x100x28x28 .f32) = K.A3 m c)
    (h4 : (V (Proc.tc.devRef ReferenceIdeal.main_arg4) : FVec Ideal S2x128x128x54 .f32) = K.A4 m c)
    (hpre : Pre_labels_and_boxes.fn (F := Ideal) (K.A0 m c) (K.A1 m c) (K.A2 m c) (K.A3 m c) (K.A4 m c) = fun _ => 1#1) :
    R.outCat V = (KernelIdeal.Gen.dats m 0 c).arrAt 8 KernelIdeal.cfg0.N
      ∧ R.outInst V = (KernelIdeal.Gen.dats m 0 c).arrAt 9 KernelIdeal.cfg0.N := by
  have H := same m c V h0 h1 h2 h3 h4 hpre
  constructor
  · funext i
    obtain ⟨b, y, x, rfl⟩ : ∃ (b : Fin 2) (y x : Fin 512), i = ix3 b y x := ⟨i 0, i 1, i 2, eq_ix3 i⟩
    exact (H b y x).1
  · funext i
    obtain ⟨b, y, x, rfl⟩ : ∃ (b : Fin 2) (y x : Fin 512), i = ix3 b y x := ⟨i 0, i 1, i 2, eq_ix3 i⟩
    exact (H b y x).2

end Cert.Panoptic

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem

/-- The kernel runs, leaves its arguments as they were and every counter at zero. -/
theorem frame_p : Cert.quiescent_Kernel := fun m g _ => Cert.Kernel.Gen.frame m g

/-- The idealized kernel runs, leaves its arguments as they were and every counter at zero. -/
theorem frame_pi : Cert.quiescent_KernelIdeal := fun m g _ => Cert.KernelIdeal.Gen.frame m g

/-- The reference runs, leaves its arguments as they were and every counter at zero. -/
theorem frame_ri : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- Both runs end with the same classes and the same instances, where the labels and boxes are as the precondition says. -/
theorem algebraic [hPre : Cert.Pre_labels_and_boxes.Facts] : Cert.algebraic_KernelIdeal_ReferenceIdeal_pre_labels_and_boxes := by
  intro m g m' g' hpre hagree
  refine ⟨fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g,
    (θ_run Cert.ReferenceIdeal.defs _ _).mono (fun r h c => ?_) (Cert.ReferenceIdeal.Value.run (F := Ideal) m' g')⟩
  obtain ⟨a0, a1, a2, a3, a4⟩ := hagree c
  have H := Cert.Panoptic.same_arrays m c (StableHlo.launchContents m' c) a0 a1 a2 a3 a4 (hpre c)
  obtain ⟨r0, r1, rest⟩ := h c
  exact ⟨r0.trans H.1, r1.trans H.2, rest⟩

/-- The certificate's claim, put together from the theorems above. -/
theorem claim : Cert.Claim := ⟨Cert.Kernel.Gen.facts, Cert.KernelIdeal.Gen.facts, Cert.ReferenceIdeal.Gen.facts, Cert.Panoptic.Pre.facts,
  frame_p, frame_pi, fun m g _ => frame_pi m g trivial, frame_ri, fun m g _ => frame_ri m g trivial, trivial,
  algebraic (hPre := Cert.Panoptic.Pre.facts)⟩

end Cert.Proof

end
